-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S6 : Shape := ⟨1, ![6]⟩
abbrev S_ : Shape := ⟨0, ![]⟩
abbrev S1 : Shape := ⟨1, ![1]⟩
abbrev S128x1024 : Shape := ⟨2, ![128, 1024]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .local _ .vmem, ⟨0, _⟩ => ⟨S256x1024, .f32⟩
  | .local _ .vmem, ⟨1, _⟩ => ⟨S1024x256, .f32⟩
  | .local _ .vmem, ⟨2, _⟩ => ⟨S1024x256, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_7 : BitVec 32 := 1#32
  let v14 : BitVec 32 := Scalar.muli v4 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_9 : BitVec 32 := 1#32
  let v16 : BitVec 32 := Scalar.muli v6 c1_i32_9
  let v17 : BitVec 32 := Scalar.addi c0_i32_10 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_13 : BitVec 32 := 1#32
  let v18 : BitVec 32 := Scalar.muli v6 c1_i32_13
  let v19 : BitVec 32 := Scalar.addi c0_i32_14 v18
  v19.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_21 : BitVec 32 := 1#32
  let v26 : BitVec 32 := Scalar.muli v4 c1_i32_21
  let v27 : BitVec 32 := Scalar.addi c0_i32_22 v26
  v27.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_28 : BitVec 32 := 1#32
  let v34 : BitVec 32 := Scalar.muli v6 c1_i32_28
  let v35 : BitVec 32 := Scalar.addi c0_i32_29 v34
  v35.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_36 : BitVec 32 := 1#32
  let v42 : BitVec 32 := Scalar.muli v4 c1_i32_36
  let v43 : BitVec 32 := Scalar.addi c0_i32_37 v42
  v43.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v68 : BitVec 32 := Scalar.muli v2 c256_i32
  let v69 : Index := Scalar.indexCast v68
  let c0_50 : Index := 0#32
  ![v69.toNat, 0]
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_61 : BitVec 32 := 1#32
  let v77 : BitVec 32 := Scalar.muli v6 c1_i32_61
  let v78 : BitVec 32 := Scalar.addi c0_i32_62 v77
  v78.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_76 : BitVec 32 := 1#32
  let v91 : BitVec 32 := Scalar.muli v4 c1_i32_76
  let v92 : BitVec 32 := Scalar.addi c0_i32_77 v91
  v92.toNat
def k0_off2 (d0 : Dev nD) (c3_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.addi v2 c3_i32_90
  let c4_i32_91 : BitVec 32 := 4#32
  let v106 : BitVec 32 := Scalar.remsi v105 c4_i32_91
  let c256_i32_101 : BitVec 32 := 256#32
  let v124 : BitVec 32 := Scalar.muli v106 c256_i32_101
  let v125 : Index := Scalar.indexCast v124
  let c0_102 : Index := 0#32
  ![v125.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Proto.lean ====
/- The exchange the four devices run: who sends which half block to whom, on which semaphore, what each
   semaphore's signal hands to the device that waits for it, and why no wait can be stuck. Everything is
   tabulated over the six transfers `j : Fin 6` a device starts, numbered as the kernel numbers their
   semaphores; the facts below are stated once for every device and every transfer. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state beside the pipeline's own: one state machine of rounds per semaphore. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every semaphore at zero, any generator registers. -/
def s₀ : MemSt nD τ sig (Elt F) := ⟨m, fun _ => 0, ρ⟩

/-- Every element type has a value (the bits of zero, say). -/
instance elt_nonempty : ∀ e, Nonempty (Elt F e) := by
  intro e
  cases e
  all_goals first
    | exact ⟨Scalar.ofBits (F := F) _ 0⟩
    | exact ⟨(0 : BitVec _)⟩

/-! ## The ring of devices -/

set_option backward.proofsInPublic true in
/-- The device after `c` on the ring, -/
def nxt (c : Dev nD) : Dev nD := ⟨(c.val + 1) % 4, Nat.mod_lt _ (by decide)⟩
set_option backward.proofsInPublic true in
/-- and the one before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- Going two steps either way ends on the same device. -/
theorem prv_prv (c : Dev nD) : prv (prv c) = nxt (nxt c) := by revert c; decide

/-- Stepping forward is a bijection of the ring. -/
def step : Dev nD ≃ Dev nD := ⟨nxt, prv, prv_nxt, nxt_prv⟩

/-! ## The six transfers -/

/-- Whether transfer `j` goes forward around the ring. -/
def fwd : Fin 6 → Bool | 0 => true | 1 => true | 2 => false | 3 => false | 4 => true | 5 => false
/-- Whether it moves the lower half of a block (rows 128 to 255). -/
def low : Fin 6 → Bool | 0 => false | 1 => true | 2 => true | 3 => false | 4 => false | 5 => true
/-- The scratch buffer it reads, -/
def srcB : Fin 6 → Fin 4 | 0 => 0 | 1 => 0 | 2 => 0 | 3 => 0 | 4 => 1 | 5 => 2
/-- and the scratch buffer it writes on the target. -/
def dstB : Fin 6 → Fin 4 | 0 => 1 | 1 => 1 | 2 => 2 | 3 => 2 | 4 => 3 | 5 => 3

/-- The neighbour in a direction, -/
def toward (b : Bool) (c : Dev nD) : Dev nD := bif b then nxt c else prv c
/-- The device transfer `j` of device `c` goes to, -/
def tgt (c : Dev nD) (j : Fin 6) : Dev nD := toward (fwd j) c
/-- and the device whose transfer `j` comes to `c`. -/
def org (c : Dev nD) (j : Fin 6) : Dev nD := toward (!fwd j) c
/-- Whose block transfer `j` of device `c` carries: its own, or (the two relayed halves) the one it got. -/
def orig (c : Dev nD) : Fin 6 → Dev nD | 0 => c | 1 => c | 2 => c | 3 => c | 4 => prv c | 5 => nxt c

theorem org_tgt (c : Dev nD) (j : Fin 6) : org (tgt c j) j = c := by revert c j; decide
theorem tgt_org (c : Dev nD) (j : Fin 6) : tgt (org c j) j = c := by revert c j; decide

/-- Transfer `j`'s target as a bijection of the ring. -/
def route (j : Fin 6) : Dev nD ≃ Dev nD := ⟨fun c => tgt c j, fun c => org c j, fun c => org_tgt c j, fun c => tgt_org c j⟩

/-! ## Buffers and their halves -/

/-- The four scratch buffers: the device's own block, the one from before, the one from after, the opposite one. -/
abbrev bR : Fin 4 → Ref sig .tc | 0 => cc0_scratch0 | 1 => cc0_scratch1 | 2 => cc0_scratch2 | 3 => cc0_scratch3

abbrev bM : Fin 4 → Memref sig .tc .vmem S256x1024 .bf16
  | 0 => Memref.whole cc0_scratch0
  | 1 => Memref.whole cc0_scratch1
  | 2 => Memref.whole cc0_scratch2
  | 3 => Memref.whole cc0_scratch3

/-- The upper or lower 128 rows of a block. -/
abbrev hR : Bool → Rect S256x1024
  | false => Rect.unit (s := S256x1024) ![0, 0] S128x1024.size inb_S256x1024_S128x1024_0_0
  | true => Rect.unit (s := S256x1024) ![128, 0] S128x1024.size inb_S256x1024_S128x1024_128_0

/-- Half `h` of scratch buffer `b`. -/
abbrev hM (b : Fin 4) : Bool → Memref sig .tc .vmem S128x1024 .bf16
  | false => (bM b).slice (Rect.unit (s := S256x1024) ![0, 0] S128x1024.size inb_S256x1024_S128x1024_0_0) (fun _ => rfl)
  | true => (bM b).slice (Rect.unit (s := S256x1024) ![128, 0] S128x1024.size inb_S256x1024_S128x1024_128_0) (fun _ => rfl)

/-- What transfer `j` reads and what it writes. -/
abbrev sM (j : Fin 6) : Memref sig .tc .vmem S128x1024 .bf16 := hM (srcB j) (low j)
abbrev dM (j : Fin 6) : Memref sig .tc .vmem S128x1024 .bf16 := hM (dstB j) (low j)

/-- The share of its source a transfer holds while in flight: a half is sent twice, or read while it is relayed. -/
def sq : Fin 6 → PosShare TreeShare
  | 0 => fullShare.left | 1 => fullShare.left | 2 => fullShare.right | 3 => fullShare.right | 4 => fullShare.left | 5 => fullShare.left

/-! ## Semaphores -/

/-- The runtime's barrier semaphore. -/
abbrev barS : Sem sig := (SemArray.scalar (sig.barrier 0 rfl) : Sems sig S_).sem

set_option backward.proofsInPublic true in
/-- Transfer `j`'s send semaphore and its receive semaphore. -/
def sS (j : Fin 6) : DmaSem sig := ⟨3 + j.val, by have := j.isLt; show 3 + j.val < 15; omega⟩
set_option backward.proofsInPublic true in
def rS (j : Fin 6) : DmaSem sig := ⟨9 + j.val, by have := j.isLt; show 9 + j.val < 15; omega⟩

/-- A device's semaphores in this exchange: the barrier, the six send ones, the six receive ones. -/
abbrev Cix : Type := Unit ⊕ (Fin 6 ⊕ Fin 6)
abbrev csem : Cix → SemLoc sig
  | .inl _ => .reg barS
  | .inr (.inl j) => .dma (sS j)
  | .inr (.inr j) => .dma (rS j)
/-- The same without the barrier: the kernel's own, scoped ones. -/
abbrev osem : Fin 6 ⊕ Fin 6 → SemLoc sig
  | .inl j => .dma (sS j)
  | .inr j => .dma (rS j)

abbrev barCell (c : Dev nD) : GSem nD τ sig := ((c : Thread nD τ), .reg barS)
abbrev sendCell (c : Dev nD) (j : Fin 6) : GSem nD τ sig := ((c : Thread nD τ), .dma (sS j))
abbrev recvCell (c : Dev nD) (j : Fin 6) : GSem nD τ sig := ((c : Thread nD τ), .dma (rS j))
abbrev kcell (ck : Dev nD × Cix) : GSem nD τ sig := ((ck.1 : Thread nD τ), csem ck.2)

/-- The units a transfer credits its semaphores with. -/
abbrev N : ℕ := (hM 0 false).view.dmaCredit
theorem N_pos : 0 < N := View.dmaCredit_pos _ (by decide)
/-- Every half of every scratch buffer credits the same. -/
theorem credit_half (b : Fin 4) (h : Bool) : (hM b h).view.dmaCredit = N := by
  fin_cases b <;> cases h <;> rfl

/-! ## Contents -/

/-- Device `d`'s block of `x`, as its staging buffer holds it, -/
def xstg (d : Dev nD) : (cc0_stg0_0 : Ref sig .tc).ty.Contents (Elt F) :=
  (win0_0.blk (0 : Fin 1)).view.read (Elt F) ((s₀ m ρ).mem ((d : Thread nD τ).loc main_arg0))
/-- its block of `w`, -/
def wstg (d : Dev nD) : (cc0_stg1_0 : Ref sig .tc).ty.Contents (Elt F) :=
  (win0_1.blk (0 : Fin 1)).view.read (Elt F) ((s₀ m ρ).mem ((d : Thread nD τ).loc main_arg1))
/-- and its block of `x` in the narrow format the devices exchange. -/
def xbf (d : Dev nD) : S256x1024.Idx → Elt F .bf16 := k0_pay1 (xstg m ρ d)

/-- Half `h` of a block. -/
def half (h : Bool) (X : S256x1024.Idx → Elt F .bf16) : S128x1024.Idx → Elt F .bf16 :=
  match h with
  | false => fun i => X ((hR false).emb i)
  | true => fun i => X ((hR true).emb i)

/-- What transfer `j` of device `c` carries. -/
def carried (c : Dev nD) (j : Fin 6) : S128x1024.Idx → Elt F .bf16 := half (low j) (xbf m ρ (orig c j))

/-- The place transfer `j` lands in on device `c`, holding anything. -/
def slot (c : Dev nD) (j : Fin 6) : sProp 𝕄 := iprop(∃ Y, ownsTc c (dM j) fullShare Y)
/-- What transfer `j` of device `c` reads, at its share. -/
def sent (c : Dev nD) (j : Fin 6) : sProp 𝕄 := ownsTc c (sM j) (sq j) (carried m ρ c j)
/-- What transfer `j` has left on device `c`. -/
def landed (c : Dev nD) (j : Fin 6) : sProp 𝕄 := ownsTc c (dM j) fullShare (carried m ρ (org c j) j)
/-- What a neighbour's barrier signal hands device `c`: the landing places of `c`'s three transfers to that neighbour. -/
def opened (c : Dev nD) : Bool → sProp 𝕄
  | true => iprop(slot (F := F) (nxt c) 0 ∗ slot (nxt c) 1 ∗ slot (nxt c) 4)
  | false => iprop(slot (F := F) (prv c) 2 ∗ slot (prv c) 3 ∗ slot (prv c) 5)

omit [FloatOps F] in
instance slot_storable (c : Dev nD) (j : Fin 6) : BI.Storable (upEmb : UEmb _ 𝕄) (slot (F := F) c j) := by unfold slot; infer_instance
instance sent_storable (c : Dev nD) (j : Fin 6) : BI.Storable (upEmb : UEmb _ 𝕄) (sent (F := F) m ρ c j) := by unfold sent; infer_instance
instance landed_storable (c : Dev nD) (j : Fin 6) : BI.Storable (upEmb : UEmb _ 𝕄) (landed (F := F) m ρ c j) := by unfold landed; infer_instance
omit [FloatOps F] in
instance opened_storable (c : Dev nD) (b : Bool) : BI.Storable (upEmb : UEmb _ 𝕄) (opened (F := F) c b) := by
  cases b <;> (unfold opened; infer_instance)

/-! ## The schedule -/

/-- What the semaphore `sm` of device `c` hands over: the barrier a neighbour's landing places, a send semaphore the
    source back, a receive semaphore the landed half. -/
def handed (c : Dev nD) (b : Bool) : SemLoc sig → sProp 𝕄
  | .reg _ => opened c b
  | .dma q => if h : 3 ≤ q.val ∧ q.val < 9 then sent m ρ c ⟨q.val - 3, by omega⟩
      else if h : 9 ≤ q.val ∧ q.val < 15 then landed m ρ c ⟨q.val - 9, by omega⟩
      else iprop(emp)

/-- The duties of a semaphore: both neighbours' signals on the barrier, one landing on a transfer's semaphore, none on
    the pipeline's own. -/
def dutiesOf : SemLoc sig → Finset Bool
  | .reg _ => Finset.univ
  | .dma q => if 3 ≤ q.val then {false} else ∅

/-- The units of one duty. -/
def unitsOf : SemLoc sig → ℕ
  | .reg _ => 1
  | .dma _ => N

/-- One round on every semaphore of the exchange. -/
def rd : Rounds.Schedule (GSem nD τ sig) Bool 𝕄 where
  duties g r := if r = 0 ∧ g.1.2 = .tc then dutiesOf g.2 else ∅
  unitless _ := False
  amount g _ _ := unitsOf g.2
  payload g _ b := handed m ρ g.1.1 b g.2
  amount_pos g _ _ _ := by
    rcases g with ⟨_, _ | _⟩
    · exact Nat.one_pos
    · exact N_pos

instance rd_payload_storable (g : GSem nD τ sig) (r : ℕ) (b : Bool) :
    BI.Storable (upEmb : UEmb _ 𝕄) ((rd (F := F) m ρ).payload g r b) := by
  show BI.Storable upEmb (handed m ρ g.1.1 b g.2)
  rcases g with ⟨_, _ | q⟩
  · show BI.Storable upEmb (opened _ b); infer_instance
  · show BI.Storable upEmb (if h : 3 ≤ q.val ∧ q.val < 9 then sent m ρ _ ⟨q.val - 3, by omega⟩
      else if h : 9 ≤ q.val ∧ q.val < 15 then landed m ρ _ ⟨q.val - 9, by omega⟩ else iprop(emp))
    split
    · infer_instance
    · split <;> infer_instance

section Sched
variable (c : Dev nD) (j : Fin 6)

theorem duties_bar : (rd (F := F) m ρ).duties (barCell c) 0 = Finset.univ :=
  (if_pos ⟨rfl, rfl⟩ : (if (0 : ℕ) = 0 ∧ (barCell c).1.2 = .tc then dutiesOf (.reg barS) else ∅) = dutiesOf (.reg barS))
theorem duties_send : (rd (F := F) m ρ).duties (sendCell c j) 0 = {false} :=
  (if_pos ⟨rfl, rfl⟩ : (if (0 : ℕ) = 0 ∧ (sendCell c j).1.2 = .tc then dutiesOf (.dma (sS j)) else ∅) = dutiesOf (.dma (sS j))).trans
    (if_pos (Nat.le_add_right 3 j.val))
theorem duties_recv : (rd (F := F) m ρ).duties (recvCell c j) 0 = {false} :=
  (if_pos ⟨rfl, rfl⟩ : (if (0 : ℕ) = 0 ∧ (recvCell c j).1.2 = .tc then dutiesOf (.dma (rS j)) else ∅) = dutiesOf (.dma (rS j))).trans
    (if_pos (show 3 ≤ 9 + j.val by omega))
/-- No semaphore has a second round. -/
theorem duties_later (g : GSem nD τ sig) : ∀ r, 1 ≤ r → (rd (F := F) m ρ).duties g r = ∅ :=
  fun r hr => if_neg fun h => by omega

theorem amount_bar (b : Bool) : (rd (F := F) m ρ).amount (barCell c) 0 b = 1 := rfl
theorem amount_send (b : Bool) : (rd (F := F) m ρ).amount (sendCell c j) 0 b = N := rfl
theorem amount_recv (b : Bool) : (rd (F := F) m ρ).amount (recvCell c j) 0 b = N := rfl

theorem expect_bar : (rd (F := F) m ρ).expect (barCell c) 0 = 2 := by
  unfold Schedule.expect Schedule.amountOf
  rw [duties_bar, Finset.sum_congr rfl fun b _ => amount_bar m ρ c b, Finset.sum_const, Finset.card_univ, Fintype.card_bool, smul_eq_mul]
theorem expect_send : (rd (F := F) m ρ).expect (sendCell c j) 0 = N := by
  unfold Schedule.expect Schedule.amountOf; rw [duties_send, Finset.sum_singleton, amount_send]
theorem expect_recv : (rd (F := F) m ρ).expect (recvCell c j) 0 = N := by
  unfold Schedule.expect Schedule.amountOf; rw [duties_recv, Finset.sum_singleton, amount_recv]

theorem payload_bar (b : Bool) : (rd (F := F) m ρ).payload (barCell c) 0 b = opened c b := rfl
theorem payload_send (b : Bool) : (rd (F := F) m ρ).payload (sendCell c j) 0 b = sent m ρ c j := by
  show (if h : 3 ≤ 3 + j.val ∧ 3 + j.val < 9 then sent m ρ c ⟨3 + j.val - 3, by omega⟩ else _) = _
  rw [dif_pos ⟨by omega, by have := j.isLt; omega⟩]
  exact congrArg (sent m ρ c) (Fin.ext (by show 3 + j.val - 3 = j.val; omega))
theorem payload_recv (b : Bool) : (rd (F := F) m ρ).payload (recvCell c j) 0 b = landed m ρ c j := by
  show (if h : 3 ≤ 9 + j.val ∧ 9 + j.val < 9 then sent m ρ c ⟨9 + j.val - 3, by omega⟩
    else if h : 9 ≤ 9 + j.val ∧ 9 + j.val < 15 then landed m ρ c ⟨9 + j.val - 9, by omega⟩ else _) = _
  rw [dif_neg (by omega), dif_pos ⟨by omega, by have := j.isLt; omega⟩]
  exact congrArg (landed m ρ c) (Fin.ext (by show 9 + j.val - 9 = j.val; omega))

/-- All a barrier hands over: both neighbours' landing places. -/
theorem rest_bar : bigSep ((rd (F := F) m ρ).duties (barCell c) 0 \ ∅) (fun b => (rd (F := F) m ρ).payload (barCell c) 0 b)
    = iprop(opened c false ∗ opened c true) := by
  rw [Finset.sdiff_empty, duties_bar, bigSep_univ_eq_bigSepL [false, true] (by decide) (by decide), bigSepL_cons_cons, bigSepL_singleton,
    payload_bar, payload_bar]
  rfl
theorem rest_send : bigSep ((rd (F := F) m ρ).duties (sendCell c j) 0 \ ∅) (fun b => (rd (F := F) m ρ).payload (sendCell c j) 0 b) = sent m ρ c j := by
  rw [Finset.sdiff_empty, duties_send, bigSep_singleton, payload_send]
theorem rest_recv : bigSep ((rd (F := F) m ρ).duties (recvCell c j) 0 \ ∅) (fun b => (rd (F := F) m ρ).payload (recvCell c j) 0 b) = landed m ρ c j := by
  rw [Finset.sdiff_empty, duties_recv, bigSep_singleton, payload_recv]

end Sched

/-! ## What a device owes, and the levels -/

/-- The transfers from last to first as the kernel starts them. -/
def lastFirst : ℕ → Fin 6 | 0 => 5 | 1 => 4 | 2 => 3 | 3 => 1 | 4 => 2 | _ => 0

/-- What device `c` still owes its neighbours' receive semaphores with `k` transfers to start. -/
def debt (c : Dev nD) : ℕ → CellTallies nD τ sig Unit
  | 0 => 0
  | k + 1 => debt c k + tallyAt (recvCell (tgt c (lastFirst k)) (lastFirst k)) () N

/-- All it owes at launch: six transfers, a unit to each neighbour's barrier (the one before is signalled first). -/
def O₁ (c : Dev nD) : CellTallies nD τ sig Unit := debt c 6 + tallyAt (barCell (nxt c)) () 1
def O₀ (c : Dev nD) : CellTallies nD τ sig Unit := O₁ c + tallyAt (barCell (prv c)) () 1

def L (g : GSem nD τ sig) : Finset Unit := if g.1.2 = .tc then {()} else ∅
/-- The height of a semaphore: the pipeline's and the send ones lowest, then the barrier, then the receive semaphores of the
    first four transfers, then those of the two relayed ones. A device waits only below all it owes. -/
def height : SemLoc sig → ℕ
  | .reg _ => 1
  | .dma q => if q.val < 9 then 0 else if q.val < 13 then 2 else 3
def lv (g : GSem nD τ sig) (_ : Unit) : ℕ := height g.2

theorem L_of_ne (g : GSem nD τ sig) (h : g.1.2 ≠ .tc) : L g = ∅ := if_neg h
theorem L_tc (c : Dev nD) (sm : SemLoc sig) : L ((c : Thread nD τ), sm) = {()} := if_pos rfl

/-- Any cell of the debt is the receive cell of a transfer still to start. -/
theorem debt_pos {c : Dev nD} {g : GSem nD τ sig} {u : Unit} : ∀ {k : ℕ}, 0 < debt c k g u → ∃ i < k, g = recvCell (tgt c (lastFirst i)) (lastFirst i)
  | 0, h => absurd h (Nat.lt_irrefl 0)
  | k + 1, h => by
    unfold debt at h
    rw [Pi.add_apply, Finsupp.add_apply, tallyAt_apply] at h
    by_cases hg : g = recvCell (tgt c (lastFirst k)) (lastFirst k)
    · exact ⟨k, Nat.lt_succ_self k, hg⟩
    · rw [if_neg fun h' => hg h'.1, Nat.add_zero] at h
      obtain ⟨i, hi, e⟩ := debt_pos h
      exact ⟨i, Nat.lt_succ_of_lt hi, e⟩

theorem O₀_pos {c : Dev nD} {g : GSem nD τ sig} {u : Unit} (h : 0 < O₀ c g u) :
    (∃ d, g = barCell d) ∨ ∃ d j, g = recvCell d j := by
  unfold O₀ O₁ at h
  rw [Pi.add_apply, Finsupp.add_apply, Pi.add_apply, Finsupp.add_apply, tallyAt_apply, tallyAt_apply] at h
  by_cases h1 : g = barCell (nxt c)
  · exact .inl ⟨_, h1⟩
  by_cases h2 : g = barCell (prv c)
  · exact .inl ⟨_, h2⟩
  rw [if_neg fun h' => h1 h'.1, if_neg fun h' => h2 h'.1, Nat.add_zero] at h
  obtain ⟨i, -, e⟩ := debt_pos h
  exact .inr ⟨_, _, e⟩

theorem height_recv_pos (j : Fin 6) : 0 < height (.dma (rS j)) := by revert j; decide

omit [FloatOps F] in
/-- A wait on a semaphore of the pipeline is below all a device owes, at launch and at the end. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, j, rfl⟩ <;> exact Finset.mem_singleton_self _)
      (fun p hp => by rw [Finset.mem_singleton.mp hp]; exact Nat.le_of_eq (if_pos hq))
      (fun g u hg => by
        rcases O₀_pos hg with ⟨d, rfl⟩ | ⟨d, j, rfl⟩
        · exact Nat.one_pos
        · exact height_recv_pos j)
  · rw [MayWait_zero]; iintro -; iempintro

omit [FloatOps F] in
/-- A wait on semaphore `sm` with `k` transfers to start is below the debt when `sm` is lower than their receive semaphores. -/
theorem mayWait_debt (c : Dev nD) (sm : SemLoc sig) (k : ℕ) (h : ∀ i < k, height sm < height (.dma (rS (lastFirst i)))) :
    (levAts L lv : sProp 𝕄) ⊢ MayWait (c : Thread nD τ) sm () (debt c k) :=
  MayOwe.of_cut (L := L) (lev := lv) (height sm) (fun p hp => by rw [Finset.mem_singleton.mp hp, L_tc]; exact Finset.mem_singleton_self _)
    (fun g u hg => by obtain ⟨i, -, rfl⟩ := debt_pos hg; exact Finset.mem_singleton_self _)
    (fun p hp => by rw [Finset.mem_singleton.mp hp]; exact Nat.le_refl _)
    (fun g u hg => by obtain ⟨i, hi, rfl⟩ := debt_pos hg; exact h i hi)

end Cert.Exchange

end
-- ==== Proof.Rules.lean ====
/- One rule per effect of the exchange, each stated once for every device and every transfer: a signal to a
   neighbour's barrier, the wait on one's own, starting a transfer, and the wait on a transfer's receive or send
   semaphore. Each wait also closes its semaphore, which has only one round. -/
module

public import proofs.«01_k».proof.Proof.Proto

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows and what each holds -/

/-- The standing facts: every semaphore's invariant, that every semaphore is at its round, and the levels. -/
def world (K : Dev nD × Cix → ℕ) : sProp 𝕄 :=
  iprop((bigSep Finset.univ fun ck : Dev nD × Cix => cellInv ER (rd m ρ) (K ck) (kcell ck))
    ∗ (bigSep Finset.univ fun ck : Dev nD × Cix => reached ER (kcell ck) 0) ∗ levAts L lv)

instance world_persistent (K : Dev nD × Cix → ℕ) : BI.Persistent (world m ρ K) := by unfold world; infer_instance

section World
variable (K : Dev nD × Cix → ℕ)

theorem world_inv (ck : Dev nD × Cix) : world m ρ K ⊢ cellInv ER (rd m ρ) (K ck) (kcell ck) := by
  have h : (bigSep Finset.univ fun ck : Dev nD × Cix => (cellInv ER (rd m ρ) (K ck) (kcell ck) : sProp 𝕄)) ⊢ cellInv ER (rd m ρ) (K ck) (kcell ck) :=
    bigSep_elim (Finset.mem_univ ck)
  unfold world; iintro ⟨H, -, -⟩; iapply h; iexact H
theorem world_mark (ck : Dev nD × Cix) : world m ρ K ⊢ reached ER (kcell ck) 0 := by
  have h : (bigSep Finset.univ fun ck : Dev nD × Cix => (reached ER (kcell ck) 0 : sProp 𝕄)) ⊢ reached ER (kcell ck) 0 :=
    bigSep_elim (Finset.mem_univ ck)
  unfold world; iintro ⟨-, H, -⟩; iapply h; iexact H
theorem world_lev : world m ρ K ⊢ levAts L lv := by
  unfold world; iintro ⟨-, -, H⟩; iexact H

end World

/-- What starting transfer `j` takes: the position on its send semaphore, and the tokens of the two units it pays. -/
def sendKit (c : Dev nD) (j : Fin 6) : sProp 𝕄 :=
  iprop(atPos ER (sendCell c j) 0 ∅ 0 ∗ dutyTok ER (sendCell c j) 0 false ∗ dutyTok ER (recvCell (tgt c j) j) 0 false)
/-- What waiting for the incoming transfer `j` takes. -/
def recvKit (c : Dev nD) (j : Fin 6) : sProp 𝕄 :=
  iprop(atPos ER (recvCell c j) 0 ∅ 0 ∗ cred (tallyAt (recvCell c j) () N))
/-- What is left of a started transfer until its send semaphore is waited for. -/
def flight (c : Dev nD) (j : Fin 6) : sProp 𝕄 :=
  iprop(atPos ER (sendCell c j) 0 ∅ 0 ∗ cred (tallyAt (sendCell c j) () N))
/-- That device `c` owes `O`, whatever it has waited for. -/
def owesAny (c : Dev nD) (O : CellTallies nD τ sig Unit) : sProp 𝕄 := iprop(∃ W, owes (c : Thread nD τ) O W)

/-! ## Rules -/

section Rules
variable (K : Dev nD × Cix → ℕ) (c : Dev nD)

/-- Signalling device `d`'s barrier pays one of its two units with the landing places its transfers need. -/
theorem signal_rule (d n : Dev nD) (hn : n = d) (b : Bool) (O : CellTallies nD τ sig Unit)
    {α : Type} {Q : α → sProp 𝕄} {k : PUnit → Prog (TpuEff nD τ sig (Elt F) Λ₀ .tc) α} :
    iprop(world m ρ K ∗ owesAny c (O + tallyAt (barCell d) () 1) ∗ dutyTok ER (barCell d) 0 b ∗ opened d b)
      ⊢ iprop((owesAny c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32).toInt) k) Q) := by
  subst hn
  unfold owesAny
  iintro ⟨#HW, ⟨%W, HO⟩, Ht, Hp⟩ Hk
  iapply (Rounds.wp_signal 𝒱₀ ER (rd m ρ) (c : Thread nD τ) none (dst := (n : Thread nD τ)) (κ := K (n, .inl ()))
      (d := b) (by rw [duties_bar]; exact Finset.mem_univ _) ((amount_bar m ρ n b).trans (by decide)) () O rfl)
    $$ [HO Ht Hp]
  · isplitr; · iapply (world_inv m ρ K (n, .inl ())); iexact HW
    isplitl [HO]; · iexact HO
    isplitl [Ht]; · iexact Ht
    isplitl [Hp]; · rw [payload_bar]; iexact Hp
    iapply (world_mark m ρ K (n, .inl ())); iexact HW
  iintro HO
  iapply Hk
  iexists W; iexact HO

/-- The wait for both neighbours' signals, all six transfers still to start: every landing place is `c`'s to write. -/
theorem barrier_rule {α : Type} {Q : α → sProp 𝕄} {k : PUnit → Prog (TpuEff nD τ sig (Elt F) Λ₀ .tc) α} :
    iprop(world m ρ K ∗ atPos ER (barCell c) 0 ∅ 0 ∗ cred (tallyAt (barCell c) () 2) ∗ owesAny c (debt c 6))
      ⊢ iprop(((opened c false ∗ opened c true ∗ semVal (barCell c) 0 ∗ owesAny c (debt c 6))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (2#32).toInt) k) Q) := by
  unfold owesAny
  iintro ⟨#HW, Hat, Hc, ⟨%W, HO⟩⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := debt c 6) (W := W) (R := 0) (m := 0) (T := ∅)
      (by rw [expect_bar]; decide)) $$ [Hc HO Hat]
  · isplitr; · iapply (world_inv m ρ K (c, .inl ())); iexact HW
    isplitl [Hc]; · iexact Hc
    isplitl [HO]; · iexact HO
    isplitr; · iapply ((world_lev m ρ K).trans (mayWait_debt c (.reg barS) 6 (by decide))); iexact HW
    iexact Hat
  iintro ⟨HO, Hat, -, Hpay⟩
  ihave Hp := (Entails.of_eq (rest_bar m ρ c)) $$ Hpay
  icases Hp with ⟨Hf, Ht⟩
  imod (Rounds.cell_close ER (rd m ρ) (Set.mem_univ (K (c, .inl ()))) (fun h => h) (R := 0 + 1) (duties_later m ρ (barCell c))) $$ [Hat] with Hz
  · isplitr; · iapply (world_inv m ρ K (c, .inl ())); iexact HW
    iexact Hat
  iapply Hk
  isplitl [Hf]; · iexact Hf
  isplitl [Ht]; · iexact Ht
  isplitl [Hz]; · iexact Hz
  iexists _; iexact HO

omit [FloatOps F] in
/-- A half owned at what another half reads, after the transfer rewrote it. -/
theorem owns_written (d : Dev nD) (M : Memref sig .tc .vmem S128x1024 .bf16) (f : Buf (Elt F) (M.view.loc (d : Thread nD τ)))
    (X : S128x1024.Idx → Elt F .bf16) :
    (M.view.loc (d : Thread nD τ) ↦[M.view.set]{fullShare} (M.view.write (Elt F) f X Finset.univ) : sProp 𝕄) ⊢ ownsTc d M fullShare X :=
  (owns_intro (d : Thread nD τ) M fullShare _).trans (Entails.of_eq (by rw [View.read_write_univ]))

/-- Starting transfer `j`, the next one `c` owes: its source at its share and its target's landing place go into flight. -/
theorem send_rule {α : Type} {Q : α → sProp 𝕄} {k : PUnit → Prog (TpuEff nD τ sig (Elt F) Λ₀ .tc) α}
    (j : Fin 6) (i : ℕ) (hi : lastFirst i = j) {n : Dev nD} (hn : n = tgt c j)
    {src dst : Memref sig .tc .vmem S128x1024 .bf16} (hs : src = sM j) (hd : dst = dM j) {ss rs : DmaSem sig} (hss : ss = sS j) (hrs : rs = rS j)
    {hsc : (dst : Memref sig (Dev.tc n : Thread nD τ).2.kind .vmem S128x1024 .bf16).view.ref.isScScratch = false}
    {hsrc : src.view.WordExact} {hdst : dst.view.WordExact}
    {hsem : DmaTarget.Typed .vmem (.dma rs) (.remote (Dev.tc n : Thread nD τ) (dst : Memref sig .tc .vmem S128x1024 .bf16) (.dma ss) hsc)} :
    iprop(world m ρ K ∗ sent m ρ c j ∗ slot (tgt c j) j ∗ owesAny c (debt c (i + 1)) ∗ sendKit c j)
      ⊢ iprop(((flight c j ∗ owesAny c (debt c i)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma ss) hsc) (.dma rs) hsrc hdst hsem) k) Q) := by
  subst hn hs hd hss hrs
  unfold owesAny sent slot sendKit flight ownsTc
  rw [show owns (c : Thread nD τ) (sM j) (sq j) (carried m ρ c j)
    = (iprop(∃ f, ⌜(sM j).view.read (Elt F) f = carried m ρ c j⌝ ∗ ((sM j).view.loc (c : Thread nD τ) ↦[(sM j).view.set]{sq j} f)) : sProp 𝕄) from rfl]
  iintro ⟨#HW, ⟨%f, %hf, Hs⟩, ⟨%Y, Hd⟩, ⟨%W, HO⟩, Hat, Hts, Htr⟩ Hk
  ihave Hd' := (show owns (tgt c j : Thread nD τ) (dM j) fullShare Y
    ⊢ (iprop(∃ f, ⌜(dM j).view.read (Elt F) f = Y⌝ ∗ ((dM j).view.loc (tgt c j : Thread nD τ) ↦[(dM j).view.set]{fullShare} f)) : sProp 𝕄) from .rfl) $$ Hd
  icases Hd' with ⟨%g, -, Hd⟩
  iapply (Rounds.wp_send_pointsTo 𝒱₀ ER (rd m ρ) (c : Thread nD τ) none (κ₁ := K (c, .inr (.inl j))) (κ₂ := K (tgt c j, .inr (.inr j)))
    (r₁ := 0) (r₂ := 0) (d₁ := false) (d₂ := false) (fd := g)
    (by rw [duties_send]; exact Finset.mem_singleton_self _) (by rw [duties_recv]; exact Finset.mem_singleton_self _)
    () () N (by exact credit_half (dstB j) (low j)) (amount_send m ρ c j false) (amount_recv m ρ (tgt c j) j false) (debt c i)
    (by show debt c i + tallyAt (recvCell (tgt c (lastFirst i)) (lastFirst i)) () N = _; rw [hi]) (W := W)
    (by rw [payload_send]; unfold sent; rw [← hf]; exact owns_intro (c : Thread nD τ) (sM j) (sq j) f)
    (by rw [payload_recv]; unfold landed; rw [org_tgt, hf]; exact owns_written (tgt c j) (dM j) g _))
    $$ [Hs Hd HO Hts Htr]
  · isplitr; · iapply (world_inv m ρ K (c, .inr (.inl j))); iexact HW
    isplitr; · iapply (world_inv m ρ K (tgt c j, .inr (.inr j))); iexact HW
    isplitl [Hs]; · iexact Hs
    isplitl [Hd]; · iexact Hd
    isplitl [HO]; · iexact HO
    isplitl [Hts]; · iexact Hts
    isplitr; · iapply (world_mark m ρ K (c, .inr (.inl j))); iexact HW
    isplitl [Htr]; · iexact Htr
    iapply (world_mark m ρ K (tgt c j, .inr (.inr j))); iexact HW
  iintro ⟨Hc, HO⟩
  iapply Hk
  isplitl [Hat Hc]
  · isplitl [Hat] <;> iassumption
  iexists W; iexact HO

/-- A wait for all a transfer's semaphore expects hands over its payload and the semaphore at zero, for good. -/
theorem wait_rule {α : Type} {Q : α → sProp 𝕄} {k : PUnit → Prog (TpuEff nD τ sig (Elt F) Λ₀ .tc) α}
    (sm : DmaSem sig) (x : Cix) (hx : csem x = .dma sm) (hex : (rd m ρ).expect ((c : Thread nD τ), .dma sm) 0 = N) (i : ℕ)
    (hi : ∀ a < i, height (.dma sm) < height (.dma (rS (lastFirst a)))) (P : sProp 𝕄)
    (hP : bigSep ((rd (F := F) m ρ).duties ((c : Thread nD τ), .dma sm) 0 \ ∅) (fun b => (rd (F := F) m ρ).payload ((c : Thread nD τ), .dma sm) 0 b) = P)
    {src dst : Memref sig .tc .vmem S128x1024 .bf16} {hsrc : src.view.WordExact} {hdst : dst.view.WordExact} (hcr : dst.view.dmaCredit = N) :
    iprop(world m ρ K ∗ atPos ER ((c : Thread nD τ), .dma sm) 0 ∅ 0 ∗ cred (tallyAt ((c : Thread nD τ), .dma sm) () N) ∗ owesAny c (debt c i))
      ⊢ iprop(((P ∗ semVal ((c : Thread nD τ), .dma sm) 0 ∗ owesAny c (debt c i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have hinv : world m ρ K ⊢ cellInv ER (rd m ρ) (K (c, x)) ((c : Thread nD τ), .dma sm) :=
    (world_inv m ρ K (c, x)).trans (Entails.of_eq (by show cellInv ER (rd m ρ) (K (c, x)) ((c : Thread nD τ), csem x) = _; rw [hx]))
  have hk : 0 + dst.view.dmaCredit = (rd m ρ).expect ((c : Thread nD τ), .dma sm) 0 := by rw [hcr, hex, Nat.zero_add]
  unfold owesAny
  iintro ⟨#HW, Hat, Hc, ⟨%W, HO⟩⟩ Hk
  iapply (Rounds.wp_wait_rest_token 𝒱₀ ER (rd m ρ) (c : Thread nD τ) none (κ := K (c, x))
      (wpE_waitDma2_eq 𝒱₀ (c : Thread nD τ) none Set.univ) (Set.mem_univ _) () (O := debt c i) (W := W) (R := 0) (m := 0) (T := ∅)
      hk) $$ [Hc HO Hat]
  · isplitr; · iapply hinv; iexact HW
    isplitl [Hc]; · rw [hcr]; iexact Hc
    isplitl [HO]; · iexact HO
    isplitr; · iapply ((world_lev m ρ K).trans (mayWait_debt c (.dma sm) i hi)); iexact HW
    iexact Hat
  iintro ⟨HO, Hat, -, Hpay⟩
  ihave Hp := (Entails.of_eq hP) $$ Hpay
  imod (Rounds.cell_close ER (rd m ρ) (Set.mem_univ (K (c, x))) (fun h => h) (R := 0 + 1) (duties_later m ρ ((c : Thread nD τ), .dma sm))) $$ [Hat] with Hz
  · isplitr; · iapply hinv; iexact HW
    iexact Hat
  iapply Hk
  isplitl [Hp]; · iexact Hp
  isplitl [Hz]; · iexact Hz
  iexists _; iexact HO

/-- The wait for the incoming transfer `j`: the half has landed. -/
theorem wait_recv_rule {α : Type} {Q : α → sProp 𝕄} {k : PUnit → Prog (TpuEff nD τ sig (Elt F) Λ₀ .tc) α}
    (j : Fin 6) (i : ℕ) (hi : ∀ a < i, height (.dma (rS j)) < height (.dma (rS (lastFirst a))))
    {rs : DmaSem sig} (hrs : rs = rS j) {src dst : Memref sig .tc .vmem S128x1024 .bf16} {hsrc : src.view.WordExact} {hdst : dst.view.WordExact}
    (hcr : dst.view.dmaCredit = N) :
    iprop(world m ρ K ∗ recvKit c j ∗ owesAny c (debt c i))
      ⊢ iprop(((landed m ρ c j ∗ semVal (recvCell c j) 0 ∗ owesAny c (debt c i))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hsrc hdst) k) Q) := by
  subst hrs
  unfold recvKit
  iintro ⟨HW, ⟨Hat, Hc⟩, HO⟩
  iapply (wait_rule m ρ K c (rS j) (.inr (.inr j)) rfl (expect_recv m ρ c j) i hi _ (rest_recv m ρ c j) hcr)
  isplitl [HW]; · iexact HW
  isplitl [Hat]; · iexact Hat
  isplitl [Hc] <;> iassumption

/-- The wait for transfer `j` of `c` itself, once all are started: its source is back. -/
theorem wait_send_rule {α : Type} {Q : α → sProp 𝕄} {k : PUnit → Prog (TpuEff nD τ sig (Elt F) Λ₀ .tc) α}
    (j : Fin 6) {ss : DmaSem sig} (hss : ss = sS j) {src dst : Memref sig .tc .vmem S128x1024 .bf16}
    {hsrc : src.view.WordExact} {hdst : dst.view.WordExact} (hcr : dst.view.dmaCredit = N) :
    iprop(world m ρ K ∗ flight c j ∗ owesAny c (debt c 0))
      ⊢ iprop(((sent m ρ c j ∗ semVal (sendCell c j) 0 ∗ owesAny c (debt c 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss src dst hsrc hdst) k) Q) := by
  subst hss
  unfold flight
  iintro ⟨HW, ⟨Hat, Hc⟩, HO⟩
  iapply (wait_rule m ρ K c (sS j) (.inr (.inl j)) rfl (expect_send m ρ c j) 0 (fun a ha => absurd ha (Nat.not_lt_zero a)) _ (rest_send m ρ c j) hcr)
  isplitl [HW]; · iexact HW
  isplitl [Hat]; · iexact Hat
  isplitl [Hc] <;> iassumption

end Rules

end Cert.Exchange

end
-- ==== Proof.Blocks.lean ====
/- Blocks in memory: a scratch buffer as its two halves and as its two shares, the moves between the forms the
   exchange uses, and the result a device builds block by block. -/
module

public import proofs.«01_k».proof.Proof.Rules
public import Idealize.ShloMosaic.Lib.MemrefSat
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Halves and shares -/

section Halves
variable (c : Dev nD) (b : Fin 4) (q : PosShare TreeShare) (X : S256x1024.Idx → Elt F .bf16)

theorem halves_disjoint : ∀ t t' : Bool, t ≠ t' → Disjoint (hR t).set (hR t').set := by
  have h : Disjoint (hR false).set (hR true).set := by
    rw [Finset.disjoint_left]
    intro x h1 h2
    have e1 := (Rect.mem_set_unit.mp h1 0).2
    have e2 := (Rect.mem_set_unit.mp h2 0).1
    have e3 : (x 0).val < 0 + 128 := e1
    have e4 : 128 ≤ (x 0).val := e2
    omega
  intro t t' ht
  cases t <;> cases t'
  · exact absurd rfl ht
  · exact h
  · exact h.symm
  · exact absurd rfl ht

theorem halves_cover : (Finset.univ : Finset Bool).biUnion (fun t => (hR t).set) = Finset.univ := by
  refine Finset.eq_univ_iff_forall.mpr fun x => Finset.mem_biUnion.mpr ?_
  have h0 : (x 0).val < 256 := (x 0).isLt
  have h1 : (x 1).val < 1024 := (x 1).isLt
  by_cases h : (x 0).val < 128
  · refine ⟨false, Finset.mem_univ _, Rect.mem_set_unit.mpr fun a => ?_⟩
    match a with
    | 0 => exact ⟨Nat.zero_le _, by show (x 0).val < 0 + 128; omega⟩
    | 1 => exact ⟨Nat.zero_le _, by show (x 1).val < 0 + 1024; omega⟩
  · refine ⟨true, Finset.mem_univ _, Rect.mem_set_unit.mpr fun a => ?_⟩
    match a with
    | 0 => exact ⟨by show 128 ≤ (x 0).val; omega, by show (x 0).val < 128 + 128; omega⟩
    | 1 => exact ⟨Nat.zero_le _, by show (x 1).val < 0 + 1024; omega⟩

theorem halves_stride : ∀ (t : Bool) (a), (hR t).stride a = 1 := by intro t a; cases t <;> rfl

theorem two_halves (Φ : Bool → sProp 𝕄) : bigSep Finset.univ Φ = iprop(Φ false ∗ Φ true) :=
  bigSep_univ_eq_bigSepL [false, true] (by decide) (by decide) Φ

/-- A buffer is its upper and its lower half. -/
theorem block_split : (ownsTc c (bM b) q X : sProp 𝕄) ⊢ iprop(ownsTc c (hM b false) q (half false X) ∗ ownsTc c (hM b true) q (half true X)) := by
  have h := owns_rects (Ix := Unit) (Name := ℕ) (U := UU) (Lvl := ℕ) (Val := Elt F) (c : Thread nD τ) (bM b) q hR halves_stride halves_disjoint halves_cover X
  rw [two_halves] at h
  exact h
theorem block_join : iprop(ownsTc c (hM b false) q (half false X) ∗ ownsTc c (hM b true) q (half true X)) ⊢ (ownsTc c (bM b) q X : sProp 𝕄) := by
  have h := owns_of_rects (Ix := Unit) (Name := ℕ) (U := UU) (Lvl := ℕ) (Val := Elt F) (c : Thread nD τ) (bM b) q hR halves_stride halves_disjoint halves_cover X
  rw [two_halves] at h
  exact h

/-- A block joined from its halves in either order. -/
theorem block_join_either (h : Bool) :
    iprop(ownsTc c (hM b h) q (half h X) ∗ ownsTc c (hM b (!h)) q (half (!h) X)) ⊢ (ownsTc c (bM b) q X : sProp 𝕄) := by
  cases h
  · exact block_join c b q X
  · show iprop(ownsTc c (hM b true) q (half true X) ∗ ownsTc c (hM b false) q (half false X)) ⊢ (ownsTc c (bM b) q X : sProp 𝕄)
    iintro ⟨H1, H2⟩
    iapply (block_join c b q X)
    isplitl [H2] <;> iassumption

/-- Of a block that arrived in two halves, the first one's left share away: the right share of the whole block to read,
    and the second half's left share beside it. -/
theorem block_gather (h : Bool) :
    iprop(ownsTc c (hM b h) fullShare.right (half h X) ∗ ownsTc c (hM b (!h)) fullShare (half (!h) X))
      ⊢ (iprop(ownsTc c (bM b) fullShare.right X ∗ ownsTc c (hM b (!h)) fullShare.left (half (!h) X)) : sProp 𝕄) := by
  iintro ⟨H1, H2⟩
  ihave H := (owns_halves (c : Thread nD τ) (hM b (!h)) fullShare (half (!h) X)).1 $$ H2
  icases H with ⟨Hl, Hr⟩
  isplitl [H1 Hr]
  · iapply (block_join_either c b fullShare.right X h)
    isplitl [H1] <;> iassumption
  iexact Hl

/-- All three pieces back: the whole block. -/
theorem block_restore (h : Bool) :
    iprop(ownsTc c (hM b h) fullShare.left (half h X) ∗ ownsTc c (bM b) fullShare.right X ∗ ownsTc c (hM b (!h)) fullShare.left (half (!h) X))
      ⊢ (ownsTc c (bM b) fullShare X : sProp 𝕄) := by
  iintro ⟨H1, H, H2⟩
  iapply (owns_halves (c : Thread nD τ) (bM b) fullShare X).2
  isplitl [H1 H2]
  · iapply (block_join_either c b fullShare.left X h)
    isplitl [H1] <;> iassumption
  iexact H

/-- A scratch buffer owned whole is its points-to. -/
theorem block_pts : (ownsTc c (bM b) q X : sProp 𝕄) ⊢ iprop(∃ f, ((c : Thread nD τ).loc (bR b)) ↦{q} f) := by
  match b with
  | 0 => exact (Entails.of_eq (owns_whole (c : Thread nD τ) cc0_scratch0 q X)).trans (by iintro H; iexists _; iexact H)
  | 1 => exact (Entails.of_eq (owns_whole (c : Thread nD τ) cc0_scratch1 q X)).trans (by iintro H; iexists _; iexact H)
  | 2 => exact (Entails.of_eq (owns_whole (c : Thread nD τ) cc0_scratch2 q X)).trans (by iintro H; iexists _; iexact H)
  | 3 => exact (Entails.of_eq (owns_whole (c : Thread nD τ) cc0_scratch3 q X)).trans (by iintro H; iexists _; iexact H)
theorem pts_block : iprop(∃ f, ((c : Thread nD τ).loc (bR b)) ↦{q} f) ⊢ (iprop(∃ Y, ownsTc c (bM b) q Y) : sProp 𝕄) := by
  match b with
  | 0 => iintro ⟨%f, H⟩; iexists f; iapply (Entails.of_eq (owns_whole (c : Thread nD τ) cc0_scratch0 q f).symm); iexact H
  | 1 => iintro ⟨%f, H⟩; iexists f; iapply (Entails.of_eq (owns_whole (c : Thread nD τ) cc0_scratch1 q f).symm); iexact H
  | 2 => iintro ⟨%f, H⟩; iexists f; iapply (Entails.of_eq (owns_whole (c : Thread nD τ) cc0_scratch2 q f).symm); iexact H
  | 3 => iintro ⟨%f, H⟩; iexists f; iapply (Entails.of_eq (owns_whole (c : Thread nD τ) cc0_scratch3 q f).symm); iexact H

/-- A landing buffer at any contents, as two landing places. -/
theorem pts_places : iprop(∃ f, ((c : Thread nD τ).loc (bR b)) ↦{fullShare} f)
    ⊢ (iprop((∃ Y, ownsTc c (hM b false) fullShare Y) ∗ ∃ Y, ownsTc c (hM b true) fullShare Y) : sProp 𝕄) := by
  refine (pts_block c b fullShare).trans ?_
  iintro ⟨%Y, H⟩
  ihave H' := (block_split c b fullShare Y) $$ H
  icases H' with ⟨H1, H2⟩
  isplitl [H1]
  · iexists _; iexact H1
  · iexists _; iexact H2

end Halves

section Own
variable (c : Dev nD)

/-- What each of the first four transfers reads: a share of a half of the device's own block. -/
theorem sent_first (h : Bool) : (ownsTc c (hM 0 h) fullShare (half h (xbf m ρ c)) : sProp 𝕄)
    ⊣⊢ iprop((sent m ρ c (bif h then 1 else 0)) ∗ sent m ρ c (bif h then 2 else 3)) := by
  cases h
  · exact owns_halves (c : Thread nD τ) (hM 0 false) fullShare (half false (xbf m ρ c))
  · exact owns_halves (c : Thread nD τ) (hM 0 true) fullShare (half true (xbf m ρ c))

/-- The device's own block, written, is the sources of its four first transfers; -/
theorem own_out : (ownsTc c (bM 0) fullShare (xbf m ρ c) : sProp 𝕄) ⊢ iprop(sent m ρ c 0 ∗ sent m ρ c 1 ∗ sent m ρ c 2 ∗ sent m ρ c 3) := by
  refine (block_split c 0 fullShare (xbf m ρ c)).trans ?_
  iintro ⟨Hu, Hl⟩
  ihave Hu' := (show _ ⊢ (iprop(sent m ρ c 0 ∗ sent m ρ c 3) : sProp 𝕄) from (sent_first m ρ c false).1) $$ Hu
  ihave Hl' := (show _ ⊢ (iprop(sent m ρ c 1 ∗ sent m ρ c 2) : sProp 𝕄) from (sent_first m ρ c true).1) $$ Hl
  icases Hu' with ⟨H0, H3⟩
  icases Hl' with ⟨H1, H2⟩
  isplitl [H0]; · iexact H0
  isplitl [H1]; · iexact H1
  isplitl [H2]; · iexact H2
  iexact H3
/-- and back. -/
theorem own_back : iprop(sent m ρ c 0 ∗ sent m ρ c 1 ∗ sent m ρ c 2 ∗ sent m ρ c 3) ⊢ (ownsTc c (bM 0) fullShare (xbf m ρ c) : sProp 𝕄) := by
  refine BIBase.Entails.trans ?_ (block_join c 0 fullShare (xbf m ρ c))
  iintro ⟨H0, H1, H2, H3⟩
  isplitl [H0 H3]
  · iapply (show (iprop(sent m ρ c 0 ∗ sent m ρ c 3) : sProp 𝕄) ⊢ _ from (sent_first m ρ c false).2)
    isplitl [H0] <;> iassumption
  · iapply (show (iprop(sent m ρ c 1 ∗ sent m ρ c 2) : sProp 𝕄) ⊢ _ from (sent_first m ρ c true).2)
    isplitl [H1] <;> iassumption

/-- A half that landed from before is what the relayed transfer forward reads, and a share to keep; -/
theorem relay_fwd : (landed m ρ c 0 : sProp 𝕄) ⊢ iprop(sent m ρ c 4 ∗ ownsTc c (hM 1 false) fullShare.right (half false (xbf m ρ (prv c)))) :=
  (owns_halves (c : Thread nD τ) (hM 1 false) fullShare (half false (xbf m ρ (prv c)))).1
/-- the same backward. -/
theorem relay_bwd : (landed m ρ c 2 : sProp 𝕄) ⊢ iprop(sent m ρ c 5 ∗ ownsTc c (hM 2 true) fullShare.right (half true (xbf m ρ (nxt c)))) :=
  (owns_halves (c : Thread nD τ) (hM 2 true) fullShare (half true (xbf m ρ (nxt c)))).1

/-- The landing buffers at any contents are the six transfers' landing places. -/
theorem places_prv : iprop(∃ f, ((c : Thread nD τ).loc cc0_scratch1) ↦{fullShare} f) ⊢ (iprop(slot c 0 ∗ slot c 1) : sProp 𝕄) := pts_places c 1
theorem places_nxt : iprop(∃ f, ((c : Thread nD τ).loc cc0_scratch2) ↦{fullShare} f) ⊢ (iprop(slot c 3 ∗ slot c 2) : sProp 𝕄) := pts_places c 2
theorem places_opp : iprop(∃ f, ((c : Thread nD τ).loc cc0_scratch3) ↦{fullShare} f) ⊢ (iprop(slot c 4 ∗ slot c 5) : sProp 𝕄) := pts_places c 3

/-- Each neighbour's block once both its halves have landed, one of them being relayed: a share to read, and what is left over; -/
theorem gather_prv : iprop(ownsTc c (hM 1 false) fullShare.right (half false (xbf m ρ (prv c))) ∗ landed m ρ c 1)
    ⊢ (iprop(ownsTc c (bM 1) fullShare.right (xbf m ρ (prv c)) ∗ ownsTc c (hM 1 true) fullShare.left (half true (xbf m ρ (prv c)))) : sProp 𝕄) :=
  block_gather c 1 (xbf m ρ (prv c)) false
theorem gather_nxt : iprop(ownsTc c (hM 2 true) fullShare.right (half true (xbf m ρ (nxt c))) ∗ landed m ρ c 3)
    ⊢ (iprop(ownsTc c (bM 2) fullShare.right (xbf m ρ (nxt c)) ∗ ownsTc c (hM 2 false) fullShare.left (half false (xbf m ρ (nxt c)))) : sProp 𝕄) :=
  block_gather c 2 (xbf m ρ (nxt c)) true
/-- and whole again once the relayed half has been read. -/
theorem restore_prv : iprop(sent m ρ c 4 ∗ ownsTc c (bM 1) fullShare.right (xbf m ρ (prv c)) ∗ ownsTc c (hM 1 true) fullShare.left (half true (xbf m ρ (prv c))))
    ⊢ (ownsTc c (bM 1) fullShare (xbf m ρ (prv c)) : sProp 𝕄) := block_restore c 1 (xbf m ρ (prv c)) false
theorem restore_nxt : iprop(sent m ρ c 5 ∗ ownsTc c (bM 2) fullShare.right (xbf m ρ (nxt c)) ∗ ownsTc c (hM 2 false) fullShare.left (half false (xbf m ρ (nxt c))))
    ⊢ (ownsTc c (bM 2) fullShare (xbf m ρ (nxt c)) : sProp 𝕄) := block_restore c 2 (xbf m ρ (nxt c)) true

/-- The relayed halves are the two halves of the opposite device's block. -/
theorem opposite : iprop(landed m ρ c 4 ∗ landed m ρ c 5) ⊢ (ownsTc c (bM 3) fullShare (xbf m ρ (nxt (nxt c))) : sProp 𝕄) := by
  refine BIBase.Entails.trans ?_ (block_join c 3 fullShare (xbf m ρ (nxt (nxt c))))
  have h : (landed m ρ c 4 : sProp 𝕄) = ownsTc c (hM 3 false) fullShare (half false (xbf m ρ (nxt (nxt c)))) := by
    rw [← prv_prv c]; rfl
  rw [h]
  exact Entails.of_eq rfl

end Own

/-! ## Reading a block -/

theorem zero_off : (![0, 0] : Fin 2 → Nat) = fun _ => 0 := funext fun a => by fin_cases a <;> rfl

/-- A load of a whole scratch buffer reads the block it holds, at any share. -/
theorem load_rule (c : Dev nD) {α : Type} {Q : α → sProp 𝕄} (b : Fin 4) (q : PosShare TreeShare) (X : S256x1024.Idx → Elt F .bf16)
    {src : Memref sig .tc .vmem S256x1024 .bf16} (hs : src = bM b)
    {hl : src.view.LoadsAt (Rect.unit (s := S256x1024) ![0, 0] S256x1024.size inb_S256x1024_S256x1024_0_0).toLoadRect}
    {k : (S256x1024.Idx → Elt F .bf16) → Prog (TpuEff nD τ sig (Elt F) Λ₀ .tc) α} :
    (ownsTc c (bM b) q X : sProp 𝕄)
      ⊢ iprop((ownsTc c (bM b) q X -∗ wp frame (wpE (defs₀ (F := F)) 𝒱₀ (c : Thread nD τ) none) Set.univ (k X) Q)
          -∗ wp frame (wpE (defs₀ (F := F)) 𝒱₀ (c : Thread nD τ) none) Set.univ
              (.op (.load src (Rect.unit (s := S256x1024) ![0, 0] S256x1024.size inb_S256x1024_S256x1024_0_0).toLoadRect hl) k) Q) := by
  subst hs
  unfold ownsTc owns
  iintro ⟨%f, %hf, H⟩ Hk
  have hr : (bM b).view.readAt (Elt F) (Rect.unit (s := S256x1024) ![0, 0] S256x1024.size inb_S256x1024_S256x1024_0_0).toLoadRect f = X := by
    rw [← hf]
    funext i
    refine congrArg ((bM b).view.read (Elt F) f) (funext fun a => Fin.ext ?_)
    match a with
    | 0 => show 0 + 1 * (i 0).val = (i 0).val; omega
    | 1 => show 0 + 1 * (i 1).val = (i 1).val; omega
  iapply (wp_load 𝒱₀ (c : Thread nD τ) none Set.univ (m := bM b) (View.setOn_subset_set _ _)) $$ H; iintro H
  rw [hr]
  iapply Hk
  iexists f
  isplitr; · (ipureintro; exact hf)
  iexact H

/-! ## The result, block by block -/

set_option backward.proofsInPublic true in
/-- An index of the result as an index of the block of 256 rows it is in. -/
def rowIn (i : S1024x256.Idx) : S256x256.Idx := fun a => match a with
  | 0 => ⟨(i 0).val % 256, Nat.mod_lt _ (by decide)⟩
  | 1 => ⟨(i 1).val, (i 1).isLt⟩

set_option backward.proofsInPublic true in
/-- The device whose block of rows an index of the result is in. -/
def rowDev (i : S1024x256.Idx) : Dev nD := ⟨(i 0).val / 256, by have h : (i 0).val < 1024 := (i 0).isLt; show (i 0).val / 256 < 4; omega⟩

/-- The result with block `d` of its rows replaced by `w`. -/
def put (d : Dev nD) (w : S256x256.Idx → Elt F .f32) (f : S1024x256.Idx → Elt F .f32) : S1024x256.Idx → Elt F .f32 :=
  fun i => if rowDev i = d then w (rowIn i) else f i

omit [FloatOps F] in
/-- A store of 256 rows at block `d` replaces that block. -/
theorem store_block (d : Dev nD) {off : Fin 2 → ℕ} (hoff : off = ![256 * d.val, 0]) (inb : ∀ a, off a + S256x256.size a ≤ S1024x256.size a)
    (f : S1024x256.Idx → Elt F .f32) (w : S256x256.Idx → Elt F .f32) :
    ((Memref.whole cc0_stg2_0 : Memref sig .tc .vmem S1024x256 .f32).access (Rect.unit (s := S1024x256) off S256x256.size inb)).write (Elt F) f w Finset.univ
      = put d w f := by
  subst hoff
  refine (View.write_whole_slice_unit (Val := Elt F) cc0_stg2_0 ![256 * d.val, 0] S256x256.size inb f w).trans (funext fun i => ?_)
  have h0 : (i 0).val < 1024 := (i 0).isLt
  have h1 : (i 1).val < 256 := (i 1).isLt
  have hd : d.val < 4 := d.isLt
  unfold updateSlice put
  by_cases h : rowDev i = d
  · have hv : (i 0).val / 256 = d.val := congrArg Fin.val h
    rw [if_pos h, dif_pos (fun a => by
      match a with
      | 0 => exact ⟨by show 256 * d.val ≤ (i 0).val; omega, by show (i 0).val < 256 * d.val + 256; omega⟩
      | 1 => exact ⟨Nat.zero_le _, by show (i 1).val < 0 + 256; omega⟩)]
    refine congrArg w (funext fun a => Fin.ext ?_)
    match a with
    | 0 => show (i 0).val - 256 * d.val = (i 0).val % 256; omega
    | 1 => rfl
  · rw [if_neg h, dif_neg fun hin => h (Fin.ext (by
      have a1 : 256 * d.val ≤ (i 0).val := (hin 0).1
      have a2 : (i 0).val < 256 * d.val + 256 := (hin 0).2
      show (i 0).val / 256 = d.val
      omega))]

/-- The block of device `d`'s rows as device `c` computes it: its own from the wide block, the others from the narrow ones. -/
def blk (c d : Dev nD) : S256x256.Idx → Elt F .f32 :=
  if d = c then k0_pay3 (k0_pay2 (xstg m ρ c) (wstg m ρ c)) (Scalar.ofBits .f32 0x3F000000#32)
  else if d = prv c then k0_pay7 (k0_pay4 (xbf m ρ (prv c)) (wstg m ρ c)) (k0_pay5 (xbf m ρ (prv c)) (wstg m ρ c)) (k0_pay6 (xbf m ρ (prv c)) (wstg m ρ c))
  else if d = nxt c then k0_pay12 (k0_pay9 (xbf m ρ (nxt c)) (wstg m ρ c)) (k0_pay10 (xbf m ρ (nxt c)) (wstg m ρ c)) (k0_pay11 (F := F))
  else k0_pay16 (k0_pay14 (xbf m ρ (nxt (nxt c))) (wstg m ρ c)) (k0_pay15 (xbf m ρ (nxt (nxt c))) (wstg m ρ c))

/-- The result on device `c`. -/
def outAt (c : Dev nD) : S1024x256.Idx → Elt F .f32 := fun i => blk m ρ c (rowDev i) (rowIn i)

theorem four_devices (c d : Dev nD) : d = c ∨ d = prv c ∨ d = nxt c ∨ d = nxt (nxt c) := by revert c d; decide
theorem prv_ne (c : Dev nD) : prv c ≠ c := by revert c; decide
theorem nxt_ne (c : Dev nD) : nxt c ≠ c ∧ nxt c ≠ prv c := by revert c; decide
theorem opp_ne (c : Dev nD) : nxt (nxt c) ≠ c ∧ nxt (nxt c) ≠ prv c ∧ nxt (nxt c) ≠ nxt c := by revert c; decide

/-- The four blocks stored, in the order the kernel stores them, are the result over any earlier contents. -/
theorem put_all (c : Dev nD) (f : S1024x256.Idx → Elt F .f32) :
    put (nxt (nxt c)) (k0_pay16 (k0_pay14 (xbf m ρ (nxt (nxt c))) (wstg m ρ c)) (k0_pay15 (xbf m ρ (nxt (nxt c))) (wstg m ρ c)))
      (put (nxt c) (k0_pay12 (k0_pay9 (xbf m ρ (nxt c)) (wstg m ρ c)) (k0_pay10 (xbf m ρ (nxt c)) (wstg m ρ c)) (k0_pay11 (F := F)))
        (put (prv c) (k0_pay7 (k0_pay4 (xbf m ρ (prv c)) (wstg m ρ c)) (k0_pay5 (xbf m ρ (prv c)) (wstg m ρ c)) (k0_pay6 (xbf m ρ (prv c)) (wstg m ρ c)))
          (put c (k0_pay3 (k0_pay2 (xstg m ρ c) (wstg m ρ c)) (Scalar.ofBits .f32 0x3F000000#32)) f))) = outAt m ρ c := by
  funext i
  unfold put outAt blk
  have h1 := prv_ne c
  have h2 := nxt_ne c
  have h3 := opp_ne c
  rcases four_devices c (rowDev i) with h | h | h | h <;> rw [h]
  · rw [if_neg h3.1.symm, if_neg h2.1.symm, if_neg h1.symm, if_pos rfl, if_pos rfl]
  · rw [if_neg h3.2.1.symm, if_neg h2.2.symm, if_pos rfl, if_neg h1, if_pos rfl]
  · rw [if_neg h3.2.2.symm, if_pos rfl, if_neg h2.1, if_neg h2.2, if_pos rfl]
  · rw [if_pos rfl, if_neg h3.1, if_neg h3.2.1, if_neg h3.2.2]

end Cert.Exchange

end
-- ==== Proof.Body.lean ====
/- The kernel's body on one device, executed effect by effect in program order, and the pipeline's obligation for it. -/
module

public import proofs.«01_k».proof.Proof.Blocks
public import proofs.«01_k».proof.Proof.Gen.KernelIdeal.Skeleton

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The four scratch buffers at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- The protocol's share of device `c`: its barrier cell's position and credit, the two neighbours' barrier duties it
    pays, and the six transfers' kits on both ends. -/
def kits (c : Dev nD) : sProp 𝕄 :=
  iprop(((atPos ER (barCell c) 0 ∅ 0 ∗ cred (tallyAt (barCell c) () 2)) ∗ dutyTok ER (barCell (prv c)) 0 true ∗ dutyTok ER (barCell (nxt c)) 0 false)
    ∗ (bigSep Finset.univ fun j => sendKit (F := F) c j) ∗ bigSep Finset.univ fun j => recvKit (F := F) c j)

def Φ₀ (c : Dev nD) : sProp 𝕄 := iprop((∃ K, world m ρ K ∗ kits c) ∗ scratch c)
/-- After the point: the scratch buffers back, every cell of the device closed at zero. -/
def Φ₁ (c : Dev nD) : sProp 𝕄 :=
  iprop(scratch c ∗ semVal (barCell c) 0 ∗ (bigSep Finset.univ fun j => semVal (sendCell c j) 0) ∗ bigSep Finset.univ fun j => semVal (recvCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Loads and stores of the staging buffers -/

theorem read_x (f : (cc0_stg0_0 : Ref sig .tc).ty.Contents (Elt F)) :
    (Memref.whole cc0_stg0_0 : Memref sig .tc .vmem S256x1024 .f32).view.readAt (Elt F) (Rect.unit (s := S256x1024) ![0, 0] S256x1024.size inb_S256x1024_S256x1024_0_0).toLoadRect f = f :=
  Memref.readAt_unit_zero (Elt F) cc0_stg0_0 zero_off _ f
theorem read_w (f : (cc0_stg1_0 : Ref sig .tc).ty.Contents (Elt F)) :
    (Memref.whole cc0_stg1_0 : Memref sig .tc .vmem S1024x256 .f32).view.readAt (Elt F) (Rect.unit (s := S1024x256) ![0, 0] S1024x256.size inb_S1024x256_S1024x256_0_0).toLoadRect f = f :=
  Memref.readAt_unit_zero (Elt F) cc0_stg1_0 zero_off _ f
theorem write_own (f w : (cc0_scratch0 : Ref sig .tc).ty.Contents (Elt F)) :
    ((Memref.whole cc0_scratch0 : Memref sig .tc .vmem S256x1024 .bf16).access (Rect.unit (s := S256x1024) ![0, 0] S256x1024.size inb_S256x1024_S256x1024_0_0)).write (Elt F) f w Finset.univ = w :=
  Memref.write_access_unit_zero_univ (Elt F) cc0_scratch0 zero_off _ f w

/-- Where the four blocks of rows start: the device's own, the one before's, the one after's, the opposite one's. -/
theorem off_own (c : Dev nD) : k0_off1 c = ![256 * c.val, 0] := k0_off1_eq c
theorem off_prv (c : Dev nD) : k0_off2 c 3#32 = ![256 * (prv c).val, 0] := k0_off2_eq c 2
theorem off_nxt (c : Dev nD) : k0_off2 c 1#32 = ![256 * (nxt c).val, 0] := k0_off2_eq c 0
theorem off_opp (c : Dev nD) : k0_off2 c 2#32 = ![256 * (nxt (nxt c)).val, 0] := by
  refine (k0_off2_eq c 1).trans ?_
  have h : (c.val + (1 : Fin 3).val + 1) % 4 = (nxt (nxt c)).val := by revert c; decide
  rw [h]

/-- A store of a block of 256 rows of the result. -/
theorem store_rule (c : Dev nD) (d : Dev nD) {off : Fin 2 → ℕ} (hoff : off = ![256 * d.val, 0]) (inb : ∀ a, off a + S256x256.size a ≤ S1024x256.size a)
    (f : S1024x256.Idx → Elt F .f32) (w : S256x256.Idx → Elt F .f32) {α : Type} {Q : α → sProp 𝕄} {k : PUnit → Prog (TpuEff nD τ sig (Elt F) Λ₀ .tc) α} {hst hadd} :
    (((c : Thread nD τ).loc cc0_stg2_0) ↦{fullShare} f : sProp 𝕄)
      ⊢ iprop(((((c : Thread nD τ).loc cc0_stg2_0) ↦{fullShare} (put d w f : Buf (Elt F) ((c : Thread nD τ).loc cc0_stg2_0)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg2_0 : Memref sig .tc .vmem S1024x256 .f32) (Rect.unit (s := S1024x256) off S256x256.size inb) w Finset.univ hst hadd) k) Q) := by
  iintro H Hk
  iapply (wp_store 𝒱₀ (c : Thread nD τ) none Set.univ (m := (Memref.whole cc0_stg2_0 : Memref sig .tc .vmem S1024x256 .f32))
    (r := Rect.unit (s := S1024x256) off S256x256.size inb) (Mk := Finset.univ) (Finset.subset_univ _)) $$ H; iintro H
  rw [store_block d hoff inb f w]
  iapply Hk
  iexact H

/-! ## The body -/

section Body

variable (K : Dev nD × Cix → ℕ)

def bodyPre (c : Dev nD) : sProp 𝕄 :=
  iprop(((world m ρ K ∗ kits c) ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

set_option maxHeartbeats 1600000 in
/-- The body, one rule per effect in program order, from what the device starts with to what it ends with. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  unfold bodyPre kits scratch
  rw [six, six]
  iintro ⟨⟨⟨⟨#HW, ⟨⟨HatB, HcB⟩, HtP, HtN⟩, ⟨HS0, HS1, HS2, HS3, HS4, HS5⟩, ⟨HR0, HR1, HR2, HR3, HR4, HR5⟩⟩, ⟨⟨%f0, H0⟩, H1, H2, H3⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave HO : owesAny c (O₀ c) $$ [HO]
  · unfold owesAny; iexists W; iexact HO
  -- the block in the narrow format, written to the first scratch buffer
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_scratch0) (Finset.subset_univ _)) $$ H0; iintro H0
  iapply (wp_store 𝒱₀ (c : Thread nD τ) none Set.univ (m := Memref.whole cc0_scratch0) (r := Rect.unit (s := S256x1024) ![0, 0] S256x1024.size inb_S256x1024_S256x1024_0_0)
    (Mk := Finset.univ) (Finset.subset_univ _)) $$ H0; iintro H0
  rw [write_own]
  ihave H0 : ownsTc c (bM 0) fullShare (xbf m ρ c) $$ [H0]
  · iapply (Entails.of_eq (owns_whole (c : Thread nD τ) cc0_scratch0 fullShare (xbf m ρ c)).symm); iexact H0
  ihave H0 := (own_out m ρ c) $$ H0
  icases H0 with ⟨Hs0, Hs1, Hs2, Hs3⟩
  -- the landing places, handed to the neighbours whose transfers write them
  ihave H1 := (places_prv c) $$ H1
  icases H1 with ⟨Hl0, Hl1⟩
  ihave H2 := (places_nxt c) $$ H2
  icases H2 with ⟨Hl3, Hl2⟩
  ihave H3 := (places_opp c) $$ H3
  icases H3 with ⟨Hl4, Hl5⟩
  iapply (signal_rule m ρ K c (prv c) _ (Fin.ext (k0_dev1_eq c)) true (O₁ c)) $$ [HO HtP Hl0 Hl1 Hl4]
  · isplitr; · iexact HW
    isplitl [HO]; · iexact HO
    isplitl [HtP]; · iexact HtP
    iapply (show (iprop(slot c 0 ∗ slot c 1 ∗ slot c 4) : sProp 𝕄) ⊢ opened (prv c) true by unfold opened; rw [nxt_prv])
    isplitl [Hl0]; · iexact Hl0
    isplitl [Hl1]; · iexact Hl1
    iexact Hl4
  iintro HO
  iapply (signal_rule m ρ K c (nxt c) _ (Fin.ext (k0_dev2_eq c)) false (debt c 6)) $$ [HO HtN Hl2 Hl3 Hl5]
  · isplitr; · iexact HW
    isplitl [HO]; · iexact HO
    isplitl [HtN]; · iexact HtN
    iapply (show (iprop(slot c 2 ∗ slot c 3 ∗ slot c 5) : sProp 𝕄) ⊢ opened (nxt c) false by unfold opened; rw [prv_nxt])
    isplitl [Hl2]; · iexact Hl2
    isplitl [Hl3]; · iexact Hl3
    iexact Hl5
  iintro HO
  iapply (barrier_rule m ρ K c) $$ [HatB HcB HO]
  · isplitr; · iexact HW
    isplitl [HatB]; · iexact HatB
    isplitl [HcB]; · iexact HcB
    iexact HO
  iintro ⟨Hop, HopT, HzB, HO⟩
  unfold opened
  icases Hop with ⟨Hp2, Hp3, Hp5⟩
  icases HopT with ⟨Hp0, Hp1, Hp4⟩
  -- the four transfers of the own block
  iapply (send_rule m ρ K c 0 5 rfl (Fin.ext (k0_dev3_eq c)) rfl rfl rfl rfl) $$ [Hs0 Hp0 HO HS0]
  · isplitr; · iexact HW
    isplitl [Hs0]; · iexact Hs0
    isplitl [Hp0]; · iexact Hp0
    isplitl [HO]; · iexact HO
    iexact HS0
  iintro ⟨HF0, HO⟩
  iapply (send_rule m ρ K c 2 4 rfl (Fin.ext (k0_dev4_eq c)) rfl rfl rfl rfl) $$ [Hs2 Hp2 HO HS2]
  · isplitr; · iexact HW
    isplitl [Hs2]; · iexact Hs2
    isplitl [Hp2]; · iexact Hp2
    isplitl [HO]; · iexact HO
    iexact HS2
  iintro ⟨HF2, HO⟩
  iapply (send_rule m ρ K c 1 3 rfl (Fin.ext (k0_dev5_eq c)) rfl rfl rfl rfl) $$ [Hs1 Hp1 HO HS1]
  · isplitr; · iexact HW
    isplitl [Hs1]; · iexact Hs1
    isplitl [Hp1]; · iexact Hp1
    isplitl [HO]; · iexact HO
    iexact HS1
  iintro ⟨HF1, HO⟩
  iapply (send_rule m ρ K c 3 2 rfl (Fin.ext (k0_dev6_eq c)) rfl rfl rfl rfl) $$ [Hs3 Hp3 HO HS3]
  · isplitr; · iexact HW
    isplitl [Hs3]; · iexact Hs3
    isplitl [Hp3]; · iexact Hp3
    isplitl [HO]; · iexact HO
    iexact HS3
  iintro ⟨HF3, HO⟩
  -- the own block of the result, while they are under way
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hout; iintro Hout
  iapply (store_rule c c (off_own c) _ _ _) $$ Hout; iintro Hout
  -- the first half from before, relayed forward
  iapply (wait_recv_rule m ρ K c 0 2 (by decide) rfl (credit_half 1 false)) $$ [HR0 HO]
  · isplitr; · iexact HW
    isplitl [HR0]; · iexact HR0
    iexact HO
  iintro ⟨Hv0, HzR0, HO⟩
  ihave Hv0 := (relay_fwd m ρ c) $$ Hv0
  icases Hv0 with ⟨Hs4, Hk0⟩
  iapply (send_rule m ρ K c 4 1 rfl (Fin.ext (k0_dev7_eq c)) rfl rfl rfl rfl) $$ [Hs4 Hp4 HO HS4]
  · isplitr; · iexact HW
    isplitl [Hs4]; · iexact Hs4
    isplitl [Hp4]; · iexact Hp4
    isplitl [HO]; · iexact HO
    iexact HS4
  iintro ⟨HF4, HO⟩
  -- the first half from after, relayed backward
  iapply (wait_recv_rule m ρ K c 2 1 (by decide) rfl (credit_half 2 true)) $$ [HR2 HO]
  · isplitr; · iexact HW
    isplitl [HR2]; · iexact HR2
    iexact HO
  iintro ⟨Hv2, HzR2, HO⟩
  ihave Hv2 := (relay_bwd m ρ c) $$ Hv2
  icases Hv2 with ⟨Hs5, Hk2⟩
  iapply (send_rule m ρ K c 5 0 rfl (Fin.ext (k0_dev8_eq c)) rfl rfl rfl rfl) $$ [Hs5 Hp5 HO HS5]
  · isplitr; · iexact HW
    isplitl [Hs5]; · iexact Hs5
    isplitl [Hp5]; · iexact Hp5
    isplitl [HO]; · iexact HO
    iexact HS5
  iintro ⟨HF5, HO⟩
  -- the rest of the block from before, and its block of the result
  iapply (wait_recv_rule m ρ K c 1 0 (by decide) rfl (credit_half 1 true)) $$ [HR1 HO]
  · isplitr; · iexact HW
    isplitl [HR1]; · iexact HR1
    iexact HO
  iintro ⟨Hv1, HzR1, HO⟩
  ihave Hb1 := (gather_prv m ρ c) $$ [Hk0 Hv1]
  · isplitl [Hk0]; · iexact Hk0
    iexact Hv1
  icases Hb1 with ⟨Hb1, Hq1⟩
  iapply (load_rule c 1 fullShare.right (xbf m ρ (prv c)) rfl) $$ Hb1; iintro Hb1
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hout; iintro Hout
  iapply (store_rule c (prv c) (off_prv c) _ _ _) $$ Hout; iintro Hout
  -- the rest of the block from after, and its block of the result
  iapply (wait_recv_rule m ρ K c 3 0 (by decide) rfl (credit_half 2 false)) $$ [HR3 HO]
  · isplitr; · iexact HW
    isplitl [HR3]; · iexact HR3
    iexact HO
  iintro ⟨Hv3, HzR3, HO⟩
  ihave Hb2 := (gather_nxt m ρ c) $$ [Hk2 Hv3]
  · isplitl [Hk2]; · iexact Hk2
    iexact Hv3
  icases Hb2 with ⟨Hb2, Hq2⟩
  iapply (load_rule c 2 fullShare.right (xbf m ρ (nxt c)) rfl) $$ Hb2; iintro Hb2
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hout; iintro Hout
  iapply (store_rule c (nxt c) (off_nxt c) _ _ _) $$ Hout; iintro Hout
  -- the opposite device's block, in its two relayed halves, and its block of the result
  iapply (wait_recv_rule m ρ K c 4 0 (by decide) rfl (credit_half 3 false)) $$ [HR4 HO]
  · isplitr; · iexact HW
    isplitl [HR4]; · iexact HR4
    iexact HO
  iintro ⟨Hv4, HzR4, HO⟩
  iapply (wait_recv_rule m ρ K c 5 0 (by decide) rfl (credit_half 3 true)) $$ [HR5 HO]
  · isplitr; · iexact HW
    isplitl [HR5]; · iexact HR5
    iexact HO
  iintro ⟨Hv5, HzR5, HO⟩
  ihave Hb3 := (opposite m ρ c) $$ [Hv4 Hv5]
  · isplitl [Hv4]; · iexact Hv4
    iexact Hv5
  iapply (load_rule c 3 fullShare (xbf m ρ (nxt (nxt c))) rfl) $$ Hb3; iintro Hb3
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hout; iintro Hout
  iapply (store_rule c (nxt (nxt c)) (off_opp c) _ _ _) $$ Hout; iintro Hout
  -- the sends' completions: everything read is whole again
  iapply (wait_send_rule m ρ K c 0 rfl (credit_half 0 false)) $$ [HF0 HO]
  · isplitr; · iexact HW
    isplitl [HF0]; · iexact HF0
    iexact HO
  iintro ⟨Hs0, HzS0, HO⟩
  iapply (wait_send_rule m ρ K c 1 rfl (credit_half 0 true)) $$ [HF1 HO]
  · isplitr; · iexact HW
    isplitl [HF1]; · iexact HF1
    iexact HO
  iintro ⟨Hs1, HzS1, HO⟩
  iapply (wait_send_rule m ρ K c 2 rfl (credit_half 0 true)) $$ [HF2 HO]
  · isplitr; · iexact HW
    isplitl [HF2]; · iexact HF2
    iexact HO
  iintro ⟨Hs2, HzS2, HO⟩
  iapply (wait_send_rule m ρ K c 3 rfl (credit_half 0 false)) $$ [HF3 HO]
  · isplitr; · iexact HW
    isplitl [HF3]; · iexact HF3
    iexact HO
  iintro ⟨Hs3, HzS3, HO⟩
  iapply (wait_send_rule m ρ K c 4 rfl (credit_half 1 false)) $$ [HF4 HO]
  · isplitr; · iexact HW
    isplitl [HF4]; · iexact HF4
    iexact HO
  iintro ⟨Hs4, HzS4, HO⟩
  iapply (wait_send_rule m ρ K c 5 rfl (credit_half 2 true)) $$ [HF5 HO]
  · isplitr; · iexact HW
    isplitl [HF5]; · iexact HF5
    iexact HO
  iintro ⟨Hs5, HzS5, HO⟩
  ihave Hb0 := (own_back m ρ c) $$ [Hs0 Hs1 Hs2 Hs3]
  · isplitl [Hs0]; · iexact Hs0
    isplitl [Hs1]; · iexact Hs1
    isplitl [Hs2] <;> iassumption
  ihave Hb1 := (restore_prv m ρ c) $$ [Hs4 Hb1 Hq1]
  · isplitl [Hs4]; · iexact Hs4
    isplitl [Hb1] <;> iassumption
  ihave Hb2 := (restore_nxt m ρ c) $$ [Hs5 Hb2 Hq2]
  · isplitl [Hs5]; · iexact Hs5
    isplitl [Hb2] <;> iassumption
  rw [wp_ret]; imodintro
  iapply Hk
  unfold bodyPost Φ₁ scratch Dat.owesAt Pipeline.owesWithin
  rw [show (dats m ρ 0 c).owed t0_0.succ = 0 from rfl, six, six]
  isplitl [Hb0 Hb1 Hb2 Hb3 HzB HzS0 HzS1 HzS2 HzS3 HzS4 HzS5 HzR0 HzR1 HzR2 HzR3 HzR4 HzR5]
  · isplitl [Hb0 Hb1 Hb2 Hb3]
    · isplitl [Hb0]; · iapply (block_pts c 0 fullShare (xbf m ρ c)); iexact Hb0
      isplitl [Hb1]; · iapply (block_pts c 1 fullShare (xbf m ρ (prv c))); iexact Hb1
      isplitl [Hb2]; · iapply (block_pts c 2 fullShare (xbf m ρ (nxt c))); iexact Hb2
      iapply (block_pts c 3 fullShare (xbf m ρ (nxt (nxt c)))); iexact Hb3
    isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    isplitl [HzR0]; · iexact HzR0
    isplitl [HzR1]; · iexact HzR1
    isplitl [HzR2]; · iexact HzR2
    isplitl [HzR3]; · iexact HzR3
    isplitl [HzR4] <;> iassumption
  isplitl [HO]
  · unfold owesAny
    icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr
  · ipureintro; exact put_all m ρ c g2
  iexact Hout

/-- What the pipeline starts the body with. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5) (fun _ => bodyPost m ρ c)
  unfold bodyPre' Φ₀
  iintro ⟨⟨⟨%K, Hg⟩, Hscr⟩, Hrest⟩
  iapply (sound_body m ρ K c fun _ => bodyPost m ρ c)
  unfold bodyPre
  isplitl
  · isplitl [Hg Hscr]
    · isplitl [Hg] <;> iassumption
    iexact Hrest
  iintro H
  iexact H

end Body

end Cert.Exchange

end
-- ==== Proof.Run.lean ====
/- The launch: the protocol's state minted, its tokens dealt to the devices that pay them, and the run of the whole
   program on four devices. -/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem sS_injective : Function.Injective sS := fun a b h => Fin.ext (by have := congrArg Fin.val h; show a.val = b.val; simp only [sS] at this; omega)
theorem rS_injective : Function.Injective rS := fun a b h => Fin.ext (by have := congrArg Fin.val h; show a.val = b.val; simp only [rS] at this; omega)
theorem sS_ne_rS (a b : Fin 6) : sS a ≠ rS b := by revert a b; decide

theorem csem_injective : Function.Injective csem := by
  rintro (⟨⟩ | a | a) (⟨⟩ | b | b) h
  · rfl
  · cases h
  · cases h
  · cases h
  · rw [sS_injective (SemLoc.dma.inj h)]
  · exact absurd (SemLoc.dma.inj h) (sS_ne_rS a b)
  · cases h
  · exact absurd (SemLoc.dma.inj h).symm (sS_ne_rS b a)
  · rw [rS_injective (SemLoc.dma.inj h)]

theorem dev_of_cell {c c' : Dev nD} {s s' : SemLoc sig} (h : (((c : Thread nD τ), s) : GSem nD τ sig) = ((c' : Thread nD τ), s')) : c = c' :=
  congrArg (fun g : GSem nD τ sig => g.1.1) h

theorem kcell_injective : Function.Injective (kcell : Dev nD × Cix → GSem nD τ sig) := by
  rintro ⟨c, k⟩ ⟨c', k'⟩ h
  rw [show c = c' from dev_of_cell h, show k = k' from csem_injective (congrArg Prod.snd h)]
/-- All the cells of the exchange. -/
def allCells : Finset (GSem nD τ sig) := Finset.univ.map ⟨kcell, kcell_injective⟩

/-- The units paid into one device's semaphores: two on the barrier, one on each transfer semaphore. -/
abbrev Tix : Type := Bool ⊕ (Fin 6 ⊕ Fin 6)
abbrev tokOf (ct : Dev nD × Tix) : GSem nD τ sig × ℕ × Bool := match ct.2 with
  | .inl b => (barCell ct.1, 0, b)
  | .inr (.inl j) => (sendCell ct.1 j, 0, false)
  | .inr (.inr j) => (recvCell ct.1 j, 0, false)
theorem tokOf_injective : Function.Injective tokOf := by
  rintro ⟨c, t⟩ ⟨c', t'⟩ h
  have hg : (tokOf (c, t)).1 = (tokOf (c', t')).1 := congrArg Prod.fst h
  have hb : (tokOf (c, t)).2.2 = (tokOf (c', t')).2.2 := congrArg (fun x : GSem nD τ sig × ℕ × Bool => x.2.2) h
  rcases t with b | a | a <;> rcases t' with b' | a' | a'
  · rw [show c = c' from dev_of_cell hg, show b = b' from hb]
  · cases congrArg Prod.snd hg
  · cases congrArg Prod.snd hg
  · cases congrArg Prod.snd hg
  · rw [show c = c' from dev_of_cell hg, sS_injective (SemLoc.dma.inj (congrArg Prod.snd hg))]
  · exact absurd (SemLoc.dma.inj (congrArg Prod.snd hg)) (sS_ne_rS a a')
  · cases congrArg Prod.snd hg
  · exact absurd (SemLoc.dma.inj (congrArg Prod.snd hg)).symm (sS_ne_rS a' a)
  · rw [show c = c' from dev_of_cell hg, rS_injective (SemLoc.dma.inj (congrArg Prod.snd hg))]
def allToks : Finset (GSem nD τ sig × ℕ × Bool) := Finset.univ.map ⟨tokOf, tokOf_injective⟩

/-- The state minted at launch: the pipeline's and the exchange's. -/
def u₀ : UU :=
  (initOf (Pipeline.cells cfgs cellOf_inj) (Pipeline.launchToks cfgs cellOf_inj), initOf allCells allToks)

/-- The tokens of the units paid INTO device `c`'s semaphores, -/
def intoToks (c : Dev nD) : sProp 𝕄 :=
  iprop((dutyTok ER (barCell c) 0 false ∗ dutyTok ER (barCell c) 0 true)
    ∗ (bigSep Finset.univ fun j : Fin 6 => dutyTok ER (sendCell c j) 0 false) ∗ bigSep Finset.univ fun j : Fin 6 => dutyTok ER (recvCell c j) 0 false)
/-- and those of the units device `c` pays. -/
def payToks (c : Dev nD) : sProp 𝕄 :=
  iprop((dutyTok ER (barCell (nxt c)) 0 false ∗ dutyTok ER (barCell (prv c)) 0 true)
    ∗ (bigSep Finset.univ fun j : Fin 6 => dutyTok ER (sendCell c j) 0 false) ∗ bigSep Finset.univ fun j : Fin 6 => dutyTok ER (recvCell (tgt c j) j) 0 false)

/-- What the minted state gives device `c`. -/
def G (c : Dev nD) : sProp 𝕄 :=
  iprop((bigSep Finset.univ fun k : Cix => roundState ER (rd m ρ) (kcell (c, k)) 0)
    ∗ (bigSep Finset.univ fun k : Cix => iprop(atPos ER (kcell (c, k)) 0 ∅ 0 ∗ reached ER (kcell (c, k)) 0)) ∗ intoToks c)

/-- The standing facts short of the levels. -/
def records (K : Dev nD × Cix → ℕ) : sProp 𝕄 :=
  iprop((bigSep Finset.univ fun ck : Dev nD × Cix => cellInv ER (rd m ρ) (K ck) (kcell ck))
    ∗ bigSep Finset.univ fun ck : Dev nD × Cix => reached ER (kcell ck) 0)
instance records_persistent (K : Dev nD × Cix → ℕ) : BI.Persistent (records m ρ K) := by unfold records; infer_instance

/-- What stays with device `c`: its positions, and the tokens it pays with. -/
def held (c : Dev nD) : sProp 𝕄 := iprop((bigSep Finset.univ fun k : Cix => atPos ER (kcell (c, k)) 0 ∅ 0) ∗ payToks c)

/-- What the launch makes of the minted state for device `c`. -/
def G' (c : Dev nD) : sProp 𝕄 := iprop(∃ K, records m ρ K ∗ held c)

omit [FloatOps F] in
theorem two_bools (Φ : Bool → sProp 𝕄) : bigSep Finset.univ Φ = iprop(Φ false ∗ Φ true) :=
  bigSep_univ_eq_bigSepL [false, true] (by decide) (by decide) Φ
omit [FloatOps F] in
theorem by_kind (Φ : Cix → sProp 𝕄) :
    bigSep Finset.univ Φ = iprop(Φ (.inl ()) ∗ (bigSep Finset.univ fun j : Fin 6 => Φ (.inr (.inl j))) ∗ bigSep Finset.univ fun j : Fin 6 => Φ (.inr (.inr j))) := by
  rw [bigSep_univ_sum, bigSep_univ_sum, bigSep_univ_eq_bigSepL [()] (by decide) (by decide) fun u : Unit => Φ (.inl u)]
  rfl

/-- The minted state of the exchange is dealt to the devices. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => intoToks c := by
    unfold allToks; rw [bigSep_map, bigSep_univ_prod]
    refine bigSep_congr fun c _ => ?_
    unfold intoToks
    rw [bigSep_univ_sum, bigSep_univ_sum, two_bools]
    rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores at zero -/

omit [FloatOps F] in
/-- The kernel's own semaphores are the transfers' twelve; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 6 => semVal (sendCell c j) 0) ∗ bigSep Finset.univ fun j : Fin 6 => semVal (recvCell c j) 0) := by
  unfold Pipeline.ownSems0; rw [bigSep_univ_sum]; rfl
omit [FloatOps F] in
/-- the one outside the region's scope is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ intoToks c) := by
  unfold G
  rw [ownSems0_eq, unscopedSems0_eq]
  iintro ⟨⟨HS, HR⟩, HB, Hst, Hat, Htok⟩
  imod (show iprop((bigSep Finset.univ fun k : Cix => semVal (kcell (c, k)) 0) ∗ bigSep Finset.univ fun k : Cix => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [HS HR HB Hst] with Hinv
  · isplitl [HS HR HB]
    · rw [by_kind]
      isplitl [HB]; · iexact HB
      isplitl [HS] <;> iassumption
    iexact Hst
  imodintro
  isplitl [Hinv]; · iexact Hinv
  isplitl [Hat]; · iexact Hat
  iexact Htok

/-! ## The deal -/

set_option backward.proofsInPublic true in
/-- Every transfer's target end, as a bijection of (device, transfer). -/
def routes : Dev nD × Fin 6 ≃ Dev nD × Fin 6 :=
  ⟨fun cj => (tgt cj.1 cj.2, cj.2), fun cj => (org cj.1 cj.2, cj.2), fun cj => Prod.ext (org_tgt cj.1 cj.2) rfl, fun cj => Prod.ext (tgt_org cj.1 cj.2) rfl⟩

omit [FloatOps F] in
/-- A token for a receive semaphore goes to the transfer's source, a barrier's two tokens to the two neighbours. -/
theorem toks_around : (bigSep Finset.univ fun c : Dev nD => (intoToks c : sProp 𝕄)) ⊢ bigSep Finset.univ fun c : Dev nD => payToks c := by
  have hr : (bigSep Finset.univ fun c : Dev nD => bigSep Finset.univ fun j : Fin 6 => (dutyTok ER (recvCell c j) 0 false : sProp 𝕄))
      = bigSep Finset.univ fun c : Dev nD => bigSep Finset.univ fun j : Fin 6 => dutyTok ER (recvCell (tgt c j) j) 0 false := by
    rw [← bigSep_univ_prod (fun cj : Dev nD × Fin 6 => (dutyTok ER (recvCell cj.1 cj.2) 0 false : sProp 𝕄)),
      ← bigSep_univ_prod (fun cj : Dev nD × Fin 6 => (dutyTok ER (recvCell (tgt cj.1 cj.2) cj.2) 0 false : sProp 𝕄))]
    exact bigSep_univ_equiv routes (fun cj : Dev nD × Fin 6 => (dutyTok ER (recvCell cj.1 cj.2) 0 false : sProp 𝕄))
  unfold intoToks payToks
  simp only [bigSep_sep']
  rw [hr, bigSep_univ_equiv step (fun c : Dev nD => (dutyTok ER (barCell c) 0 false : sProp 𝕄)),
    bigSep_univ_equiv step.symm (fun c : Dev nD => (dutyTok ER (barCell c) 0 true : sProp 𝕄))]
  exact Entails.of_eq rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ intoToks c) : sProp 𝕄)
      ⊢ bigSep Finset.univ (G' m ρ) := by
  rw [bigSep_sep', bigSep_sep', ← bigSep_univ_prod (fun ck : Dev nD × Cix => iprop(∃ κ : ℕ, cellInv ER (rd m ρ) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (rd m ρ) κ (kcell ck) : sProp 𝕄))) $$ HI
  icases HK with ⟨%K, #HI⟩
  ihave Htk := (toks_around (F := F)) $$ Htok
  iapply (with_persistent (R := records m ρ K) (Φ := held) (Ψ := G' m ρ) fun c _ => by
    unfold G'; iintro H; iexists K; iexact H)
  isplitr
  · unfold records; isplitl; · iexact HI
    iexact HR
  · unfold held
    rw [bigSep_sep']
    isplitl [Hat]; · iexact Hat
    iexact Htk

/-- All devices' cells become invariants together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_ne_recv {c d : Dev nD} {j : Fin 6} : barCell c ≠ recvCell d j := fun h => by cases congrArg Prod.snd h

theorem debt_bar (d c : Dev nD) : ∀ k, debt d k (barCell c) () = 0
  | 0 => rfl
  | k + 1 => by
    unfold debt
    rw [Pi.add_apply, Finsupp.add_apply, debt_bar d c k, tallyAt_ne_cell bar_ne_recv, Finsupp.zero_apply, Nat.add_zero]

theorem tally_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg fun h' => h (dev_of_cell h'.1).symm, if_neg h]

theorem nxt_eq_iff (d c : Dev nD) : nxt d = c ↔ d = prv c := ⟨fun h => by rw [← h, prv_nxt], fun h => by rw [h, nxt_prv]⟩
theorem prv_eq_iff (d c : Dev nD) : prv d = c ↔ d = nxt c := ⟨fun h => by rw [← h, nxt_prv], fun h => by rw [h, prv_nxt]⟩

/-- Each neighbour owes a barrier one unit; -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, debt_bar, tally_bar, tally_bar, Nat.zero_add]
  simp only [nxt_eq_iff, prv_eq_iff]

theorem tally_recv (d c : Dev nD) (t j : Fin 6) :
    (tallyAt (recvCell (tgt d t) t) () N : CellTallies nD τ sig Unit) (recvCell c j) () = if t = j ∧ d = org c j then N else 0 := by
  rw [tallyAt_apply]
  by_cases h : t = j ∧ d = org c j
  · obtain ⟨rfl, rfl⟩ := h
    rw [tgt_org, if_pos ⟨rfl, rfl⟩, if_pos ⟨rfl, rfl⟩]
  · rw [if_neg h, if_neg]
    intro h'
    have e1 : j = t := rS_injective (SemLoc.dma.inj (congrArg Prod.snd h'.1))
    subst e1
    exact h ⟨rfl, by rw [dev_of_cell h'.1, org_tgt]⟩

/-- and a transfer's source owes the target's receive semaphore its units. -/
theorem owed_recv (d c : Dev nD) (j : Fin 6) : O₀ d (recvCell c j) () = if d = org c j then N else 0 := by
  unfold O₀ O₁
  rw [Pi.add_apply, Finsupp.add_apply, Pi.add_apply, Finsupp.add_apply, tallyAt_ne_cell (fun h => bar_ne_recv h.symm),
    tallyAt_ne_cell (fun h => bar_ne_recv h.symm), Finsupp.zero_apply, Nat.add_zero, Nat.add_zero]
  show (0 + tallyAt (recvCell (tgt d 5) 5) () N + tallyAt (recvCell (tgt d 4) 4) () N + tallyAt (recvCell (tgt d 3) 3) () N
    + tallyAt (recvCell (tgt d 1) 1) () N + tallyAt (recvCell (tgt d 2) 2) () N + tallyAt (recvCell (tgt d 0) 0) () N : CellTallies nD τ sig Unit) (recvCell c j) () = _
  rw [zero_add]
  iterate 5 rw [Pi.add_apply, Finsupp.add_apply]
  rw [tally_recv, tally_recv, tally_recv, tally_recv, tally_recv, tally_recv]
  by_cases h : d = org c j
  · rw [if_pos h]
    have e : ∀ t : Fin 6, (if t = j ∧ d = org c j then N else 0) = if t = j then N else 0 := fun t =>
      if_congr ⟨And.left, fun h' => ⟨h', h⟩⟩ rfl rfl
    rw [e, e, e, e, e, e]
    fin_cases j <;> rfl
  · have e : ∀ t : Fin 6, (if t = j ∧ d = org c j then N else 0) = 0 := fun t => if_neg fun h' => h h'.2
    rw [e, e, e, e, e, e, if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Fin 6) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (org c j) fun _ => N,
    if_pos (Finset.mem_univ _)]

/-- The receive semaphores among all semaphores. -/
def rEmb : Fin 6 ↪ SemLoc sig := ⟨fun j => .dma (rS j), fun a b h => rS_injective (SemLoc.dma.inj h)⟩

omit [FloatOps F] in
/-- The credit a device has at launch: two units of its barrier, a transfer's units on each of its receive semaphores. -/
theorem creds (c : Dev nD) :
    (Pipeline.launchCred O₀ c : sProp 𝕄) ⊢ iprop(cred (tallyAt (barCell c) () 2) ∗ bigSep Finset.univ fun j : Fin 6 => cred (tallyAt (recvCell c j) () N)) := by
  unfold Pipeline.launchCred
  rw [bigSep_univ_at _ (SemLoc.reg barS), launch_bar]
  refine sep_mono_right ?_
  have hsub : Finset.univ.map rEmb ⊆ (Finset.univ : Finset (SemLoc sig)).erase (SemLoc.reg barS) := by decide
  refine (bigSep_subset hsub).trans ?_
  rw [bigSep_map]
  refine bigSep_mono fun j _ => ?_
  show cred (tallyOn (recvCell c j) (launchCredit (Pipeline.owing O₀) 0 (recvCell c j))) ⊢ _
  rw [launch_recv]

/-! ## The launch theorem's side conditions -/

/-- What device `c`'s body starts from, short of its scratch buffers. -/
def start (c : Dev nD) : sProp 𝕄 := iprop(∃ K, world m ρ K ∗ kits c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records held payToks
  rw [by_kind]
  iintro ⟨-, #Hlev, Hcr, -, ⟨%K, ⟨⟨#HI, #HM⟩, ⟨HaB, HaS, HaR⟩, ⟨HtN, HtP⟩, HtS, HtR⟩⟩⟩
  ihave Hc := (creds (F := F) c) $$ Hcr
  icases Hc with ⟨HcB, HcR⟩
  imodintro
  isplitl
  · unfold start
    iexists K
    isplitr
    · unfold world
      isplitr; · iexact HI
      isplitr; · iexact HM
      iexact Hlev
    unfold kits sendKit recvKit
    simp only [bigSep_sep']
    isplitl [HaB HcB HtN HtP]
    · isplitl [HaB HcB]
      · isplitl [HaB] <;> iassumption
      isplitl [HtP] <;> iassumption
    isplitl [HaS HtS HtR]
    · isplitl [HaS]; · iexact HaS
      isplitl [HtS] <;> iassumption
    isplitl [HaR] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On four devices, for any float values, from any memory with all semaphores at zero: every weakly fair execution
    terminates, with each window's array as computed and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold in the end what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Value.lean ====
/- What the run leaves in the results, over the extended reals: on every device its columns of
   `gelu (x · w)`, the same numbers the one-device program computes. -/
module

public import proofs.«01_k».proof.Proof.Run
public import proofs.«01_k».proof.Proof.Gen.ReferenceIdeal.Run
public import Idealize.ShloMosaic.Lib.Pipeline.Value
public import Idealize.ShloMosaic.Lib.MatmulPlain
public import Idealize.ShloMosaic.Lib.StackMember
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Idealize.SL.Sem
open scoped BigOperators

/-! ## The arrays the windows stage -/

section Arrays

variable {F : FTy → Type} [FloatOps F]
variable (m : (ℓ : Loc nD τ sig) → Buf (Elt F) ℓ) (ρ : Dev nD → PrngReg)

/-- The first window's one block is the whole argument, -/
theorem xstg_eq (d : Dev nD) : xstg m ρ d = m ((d : Thread nD τ).loc main_arg0) :=
  Memref.read_access_unit_zero (Elt F) main_arg0 (funext fun a => by fin_cases a <;> decide) (fun a => by fin_cases a <;> decide) _

/-- and so is the second's. -/
theorem wstg_eq (d : Dev nD) : wstg m ρ d = m ((d : Thread nD τ).loc main_arg1) :=
  Memref.read_access_unit_zero (Elt F) main_arg1 (funext fun a => by fin_cases a <;> decide) (fun a => by fin_cases a <;> decide) _

/-- The result's array holds in the end what the body left in its staging buffer. -/
theorem finalA_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

end Arrays

/-! ## One entry over the extended reals -/

/-- The tanh form of gelu at an entry `y` of the product, with the constants both programs print. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * y * y * y)))

/-- The constant may be multiplied into the cube of `y` at any point of the three products. -/
theorem gelu_cube (y : EReal) : gelu y = (Ideal.ofBits .f32 0x3F000000#32 * y) * (Ideal.ofBits .f32 0x3F800000#32
    + Ideal.tanh (Ideal.ofBits .f32 0x3F4C422A#32 * (y + Ideal.ofBits .f32 0x3D372713#32 * (y * y * y)))) := by
  unfold gelu
  rw [mul_assoc (Ideal.ofBits .f32 0x3D372713#32), mul_assoc (Ideal.ofBits .f32 0x3D372713#32)]

/-- One block's product at an entry: a row of the rows' block against a column of the weights. -/
def dotAt (X : S256x1024.Idx → EReal) (W : S1024x256.Idx → EReal) (j : S256x256.Idx) : EReal :=
  ∑ k : Fin 1024, X (ix2 (j 0) k) * W (ix2 k (j 1))

/-- The kernel's product at an entry, whatever float format its rows are held in. -/
theorem product_apply {φ : FTy} (X : FVec Ideal S256x1024 φ) (W : FVec Ideal S1024x256 .f32) (j : S256x256.Idx) :
    matmul dot_S256x1024_S1024x256_S256x256_1_0_0_1_n_n none X (shapeCast S1024x256 W shapeCasts_S1024x256_S1024x256)
      (constant S256x256 .f32 0x00000000#32) j = dotAt X W j := by
  rw [shapeCast_self, eq_ix2 j]
  refine (Ideal.matmul_plain_apply none X W _ _ _).trans ?_
  show Ideal.ofBits .f32 0x00000000#32 + _ = _
  rw [Ideal.ofBits_zero_f32, zero_add]
  rfl

/-- Rounding the rows for sending changes no extended real. -/
theorem sent_rows (X : S256x1024.Idx → EReal) : (k0_pay1 (F := Ideal) X : S256x1024.Idx → EReal) = X := by
  unfold k0_pay1
  simp only [shapeCast_self]
  rfl

/-- The four spellings of a block's gelu: the device's own block, -/
theorem own_apply (X : S256x1024.Idx → EReal) (W : S1024x256.Idx → EReal) (j : S256x256.Idx) :
    k0_pay3 (F := Ideal) (k0_pay2 X W) (Scalar.ofBits .f32 0x3F000000#32) j = gelu (dotAt X W j) := by
  have h : k0_pay2 (F := Ideal) X W j = dotAt X W j := by
    unfold k0_pay2; simp only [shapeCast_self X]; exact product_apply X W j
  rw [← h]; rfl

/-- the block of the device before, -/
theorem before_apply (X : S256x1024.Idx → EReal) (W : S1024x256.Idx → EReal) (j : S256x256.Idx) :
    k0_pay7 (F := Ideal) (k0_pay4 X W) (k0_pay5 X W) (k0_pay6 X W) j = gelu (dotAt X W j) := by
  rw [← show k0_pay4 (F := Ideal) X W j = dotAt X W j from product_apply X W j]; rfl

/-- the block of the device after, -/
theorem after_apply (X : S256x1024.Idx → EReal) (W : S1024x256.Idx → EReal) (j : S256x256.Idx) :
    k0_pay12 (F := Ideal) (k0_pay9 X W) (k0_pay10 X W) k0_pay11 j = gelu (dotAt X W j) := by
  rw [← show k0_pay8 (F := Ideal) X W j = dotAt X W j from product_apply X W j]; rfl

/-- and the block of the device opposite. -/
theorem opposite_apply (X : S256x1024.Idx → EReal) (W : S1024x256.Idx → EReal) (j : S256x256.Idx) :
    k0_pay16 (F := Ideal) (k0_pay14 X W) (k0_pay15 X W) j = gelu (dotAt X W j) := by
  rw [← show k0_pay13 (F := Ideal) X W j = dotAt X W j from product_apply X W j]; rfl

variable (m : (ℓ : Loc nD τ sig) → Buf (Elt Ideal) ℓ) (ρ : Dev nD → PrngReg)

/-- Whichever device's rows a block of the result comes from, and by whichever route they came, it is the gelu of those
    rows against the weights of the device that holds the result. -/
theorem blk_apply (c d : Dev nD) (j : S256x256.Idx) :
    blk m ρ c d j = gelu (dotAt (m ((d : Thread nD τ).loc main_arg0)) (m ((c : Thread nD τ).loc main_arg1)) j) := by
  have hx : ∀ e : Dev nD, (xbf m ρ e : S256x1024.Idx → EReal) = m ((e : Thread nD τ).loc main_arg0) :=
    fun e => (sent_rows _).trans (xstg_eq m ρ e)
  have hw := wstg_eq m ρ c
  unfold blk
  split_ifs with h1 h2 h3
  · rw [own_apply, xstg_eq, hw, h1]
  · rw [before_apply, hx, hw, h2]
  · rw [after_apply, hx, hw, h3]
  · have h4 : d = nxt (nxt c) := by
      rcases four_devices c d with h | h | h | h
      · exact absurd h h1
      · exact absurd h h2
      · exact absurd h h3
      · exact h
    rw [opposite_apply, hx, hw, h4]

/-! ## The one-device program -/

/-- The whole result: gelu of the whole product. -/
def whole (x w : Cert.ReferenceIdeal.S1024x1024.Idx → EReal) : Cert.ReferenceIdeal.S1024x1024.Idx → EReal :=
  fun i => gelu (∑ k : Fin 1024, x (ix2 (i 0) k) * w (ix2 k (i 1)))

/-- The one-device program's product at an entry. -/
theorem product_whole (x w : FVec Ideal Cert.ReferenceIdeal.S1024x1024 .f32) (i : Cert.ReferenceIdeal.S1024x1024.Idx) :
    Host.dotGeneral Cert.ReferenceIdeal.dot_S1024x1024_S1024x1024_S1024x1024_1_0_0_1_n_n none x w i
      = ∑ k : Fin 1024, (x (ix2 (i 0) k) * w (ix2 k (i 1)) : EReal) := by
  rw [eq_ix2 i]; exact StackMember.dotGeneral_plain_apply none x w _ _

/-- The one-device program's operations, one after the other, make the whole result. -/
theorem gelu_product (x w : FVec Ideal Cert.ReferenceIdeal.S1024x1024 .f32) :
    (let y := Host.dotGeneral Cert.ReferenceIdeal.dot_S1024x1024_S1024x1024_S1024x1024_1_0_0_1_n_n none x w
     let splat := fun b : BitVec 32 => broadcastInDim Cert.ReferenceIdeal.S1024x1024 ![] Cert.ReferenceIdeal.Gen.bcast_S_S1024x1024
       (constant (F := Ideal) Cert.ReferenceIdeal.S_ .f32 b)
     mulf (mulf (splat 0x3F000000#32) y) (addf (splat 0x3F800000#32)
       (Host.tanh (mulf (splat 0x3F4C422A#32) (addf y (mulf (splat 0x3D372713#32) (mulf (mulf y y) y))))))) = whole x w := by
  funext i
  unfold whole
  rw [← product_whole, gelu_cube]
  rfl

/-- The one-device program's run ends with the whole result, the arguments as they were. -/
theorem run_reference (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ fun r =>
      ∀ c : Dev Cert.ReferenceIdeal.nD,
        r.2.mem ((c.tc : Thread _ Cert.ReferenceIdeal.τ).loc Cert.ReferenceIdeal.main_v13)
          = whole (m' ((c.tc : Thread _ Cert.ReferenceIdeal.τ).loc Cert.ReferenceIdeal.main_arg0)) (m' ((c.tc : Thread _ Cert.ReferenceIdeal.τ).loc Cert.ReferenceIdeal.main_arg1))
        ∧ r.2.mem ((c.tc : Thread _ Cert.ReferenceIdeal.τ).loc Cert.ReferenceIdeal.main_arg0) = m' ((c.tc : Thread _ Cert.ReferenceIdeal.τ).loc Cert.ReferenceIdeal.main_arg0)
        ∧ r.2.mem ((c.tc : Thread _ Cert.ReferenceIdeal.τ).loc Cert.ReferenceIdeal.main_arg1) = m' ((c.tc : Thread _ Cert.ReferenceIdeal.τ).loc Cert.ReferenceIdeal.main_arg1) := by
  refine (θ_run _ _ _).mono (fun _ h c => ⟨(h c).1.trans ?_, (h c).2⟩) (Cert.ReferenceIdeal.Value.run (F := Ideal) m' ρ')
  exact gelu_product _ _

/-! ## The devices' results against the whole one -/

/-- Device `c`'s result is its block of columns of the whole result, when its rows and its weights are its blocks of
    the whole arguments. -/
theorem outAt_block (x w : Cert.ReferenceIdeal.S1024x1024.Idx → EReal)
    (hx : ∀ c : Dev nD, m ((c : Thread nD τ).loc main_arg0) = Layout.block ⟨2, ![256, 1024]⟩ ⟨2, ![1024, 1024]⟩ 0 4 c x)
    (hw : ∀ c : Dev nD, m ((c : Thread nD τ).loc main_arg1) = Layout.block ⟨2, ![1024, 256]⟩ ⟨2, ![1024, 1024]⟩ 1 4 c w)
    (c : Dev nD) : outAt m ρ c = Layout.block ⟨2, ![1024, 256]⟩ ⟨2, ![1024, 1024]⟩ 1 4 c (whole x w) := by
  funext i
  rw [Layout.block_apply]
  unfold outAt whole
  rw [blk_apply, hx, hw]
  unfold dotAt
  refine congrArg gelu (Finset.sum_congr rfl fun k _ => ?_)
  rw [Layout.block_apply, Layout.block_apply]
  have e0 : ∀ h : Layout.Tiles ⟨2, ![256, 1024]⟩ ⟨2, ![1024, 1024]⟩ 0 4, ∀ h' : Layout.Tiles ⟨2, ![1024, 256]⟩ ⟨2, ![1024, 1024]⟩ 1 4,
      h.idx (rowDev i) (ix2 (rowIn i 0) k) = ix2 (h'.idx c i 0) k := fun h h' => by
    funext a; apply Fin.ext
    match a with
    | ⟨0, _⟩ => show (i 0).val / 256 * 256 + (i 0).val % 256 = (i 0).val; omega
    | ⟨1, _⟩ => rfl
  have e1 : ∀ h' : Layout.Tiles ⟨2, ![1024, 256]⟩ ⟨2, ![1024, 1024]⟩ 1 4,
      h'.idx c (ix2 k (rowIn i 1)) = ix2 k (h'.idx c i 1) := fun h' => by
    funext a; apply Fin.ext
    match a with
    | ⟨0, _⟩ => rfl
    | ⟨1, _⟩ => rfl
  rw [e0 _ (by decide), e1]
  rfl

end Cert.Exchange

end
-- ==== Proof.lean ====
/- The five claims, assembled: the frames and the value claim are read off one run of the exchange (`run_main`), stated
   for any float values, and one run of the one-device program (`run_reference`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Exchange

/-- The run leaves the arguments as they were and every counter at zero, whatever the float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- The ideal program's frame is that at the extended reals; -/
theorem frame_ideal : Cert.quiescent_KernelIdeal := fun m ρ _ => frame_any (F := Ideal) m ρ

/-- (the two programs' kernels are one text: their tables agree at their one label, -/
theorem same_bodies (F : FTy → Type) [FloatOps F] : Cert.KernelIdeal.defs₀ (F := F) = Cert.Kernel.defs₀ := by
  refine congrArg Defs.onTc (funext fun p => funext fun a => ?_)
  match p, a with
  | ⟨0, _⟩, (t, s) => rfl

/-- and so with the pipeline around it) -/
theorem same_defs (F : FTy → Type) [FloatOps F] : Cert.KernelIdeal.defs (F := F) = Cert.Kernel.defs :=
  congrArg (Pipeline.defs Cert.KernelIdeal.pcfgs) (same_bodies F)

/-- the program's own, whose text is the same, is that at floats bit for bit; -/
theorem frame_kernel : Cert.quiescent_Kernel := fun m ρ _ => by
  have h := frame_any (F := Bits) m ρ
  rw [same_defs] at h
  exact h

/-- and the one-device program, which has no counter at all. -/
theorem frame_reference : Cert.quiescent_ReferenceIdeal := fun m ρ _ =>
  (θ_run Cert.ReferenceIdeal.defs _ _).mono
    (fun r h => ⟨fun c => (h c).2, sem_eq_zero_of_no_sems (by decide) r.2⟩) (run_reference m ρ)

/-- From blocks of the same arguments, every device ends with its block of columns of the one-device result. -/
theorem algebraic : Cert.algebraic_KernelIdeal_ReferenceIdeal := fun m ρ m' ρ' _ hagree =>
  ⟨whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨(h.1 c (2 : Fin 3)).trans ((finalA_out m ρ c).trans
          (outAt_block m ρ _ _ (fun d => (hagree d).1) (fun d => (hagree d).2) c)),
        (h.1 c (0 : Fin 3)).trans (finalA_x m ρ c), (h.1 c (1 : Fin 3)).trans (finalA_w m ρ c)⟩)
      (run_main (F := Ideal) m ρ),
    (θ_run Cert.ReferenceIdeal.defs _ _).mono (fun _ h => h 0) (run_reference m' ρ')⟩

/-- The five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
